-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_below_infinity [hPre_below_infinity : Cert.Pre_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_infinity [hPre_below_infinity : Cert.Pre_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_below_infinity [hKernelIdeal : Cert.KernelIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_below_infinity [hReferenceIdeal : Cert.ReferenceIdeal.Facts] [hPre_below_infinity : Cert.Pre_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_below_infinity [hKernelIdeal : Cert.KernelIdeal.Facts] [hReferenceIdeal : Cert.ReferenceIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_below_infinity : Cert.Pre_below_infinity.Facts),
    quiescent_Kernel (hKernel := hKernel)
    ∧ quiescent_KernelIdeal (hKernelIdeal := hKernelIdeal)
    ∧ quiescent_KernelIdeal_pre_below_infinity (hKernelIdeal := hKernelIdeal) (hPre_below_infinity := hPre_below_infinity)
    ∧ quiescent_ReferenceIdeal (hReferenceIdeal := hReferenceIdeal)
    ∧ quiescent_ReferenceIdeal_pre_below_infinity (hReferenceIdeal := hReferenceIdeal) (hPre_below_infinity := hPre_below_infinity)
    ∧ preserves_Kernel_KernelIdeal
    ∧ algebraic_KernelIdeal_ReferenceIdeal_pre_below_infinity (hKernelIdeal := hKernelIdeal) (hReferenceIdeal := hReferenceIdeal) (hPre_below_infinity := hPre_below_infinity)
-- ==== Pre_below_infinity.lean ====
abbrev S4x16x512x512 : Shape := ⟨4, ![4, 16, 512, 512]⟩
abbrev S16 : Shape := ⟨1, ![16]⟩
abbrev S4x2 : Shape := ⟨2, ![4, 2]⟩
abbrev S_ : Shape := ⟨0, ![]⟩

class Facts : Prop where
  bcast_S_S4x16x512x512 : S_.BroadcastsInDim S4x16x512x512 (![] : Fin 0 → Fin S4x16x512x512.rank)

variable [Facts]

def fn {F : FTy → Type} [FloatOps F] (main_arg0 : FVec F S4x16x512x512 .f32) (main_arg1 : IVec S16 32) (main_arg2 : IVec S4x2 32) : IVec S4x16x512x512 1 :=
  let main_cst : FVec F S_ .f32 := constant S_ .f32 0x7F800000#32
  let main_v0 : FVec F S4x16x512x512 .f32 := broadcastInDim S4x16x512x512 ![] bcast_S_S4x16x512x512 main_cst
  let main_v1 : IVec S4x16x512x512 1 := cmpf .olt main_arg0 main_v0
  main_v1
-- ==== Kernel.lean ====
abbrev S4x16x512x512 : Shape := ⟨4, ![4, 16, 512, 512]⟩
abbrev S16 : Shape := ⟨1, ![16]⟩
abbrev S4x2 : Shape := ⟨2, ![4, 2]⟩
abbrev S64x1x640 : Shape := ⟨3, ![64, 1, 640]⟩
abbrev S1x1x512x512 : Shape := ⟨4, ![1, 1, 512, 512]⟩
abbrev S1x1x640 : Shape := ⟨3, ![1, 1, 640]⟩
abbrev S512x512 : Shape := ⟨2, ![512, 512]⟩
abbrev S32x512 : Shape := ⟨2, ![32, 512]⟩
abbrev S512 : Shape := ⟨1, ![512]⟩
abbrev S1x512 : Shape := ⟨2, ![1, 512]⟩
abbrev S16x512 : Shape := ⟨2, ![16, 512]⟩
abbrev S16x32 : Shape := ⟨2, ![16, 32]⟩
abbrev S16x1 : Shape := ⟨2, ![16, 1]⟩
abbrev S16x16 : Shape := ⟨2, ![16, 16]⟩
abbrev S1x16x512 : Shape := ⟨3, ![1, 16, 512]⟩
abbrev S1 : Shape := ⟨1, ![1]⟩
abbrev S1x1x1 : Shape := ⟨3, ![1, 1, 1]⟩
abbrev S1x16 : Shape := ⟨2, ![1, 16]⟩
abbrev S1x256 : Shape := ⟨2, ![1, 256]⟩
abbrev S1x128 : Shape := ⟨2, ![1, 128]⟩
abbrev S1x640 : Shape := ⟨2, ![1, 640]⟩
abbrev S64x640 : Shape := ⟨2, ![64, 640]⟩
abbrev S5x64x48 : Shape := ⟨3, ![5, 64, 48]⟩
abbrev S64x256 : Shape := ⟨2, ![64, 256]⟩
abbrev S64x1 : Shape := ⟨2, ![64, 1]⟩
abbrev S64 : Shape := ⟨1, ![64]⟩
abbrev S64x48 : Shape := ⟨2, ![64, 48]⟩
abbrev S1x1 : Shape := ⟨2, ![1, 1]⟩
abbrev S1x64x48 : Shape := ⟨3, ![1, 64, 48]⟩
abbrev S4x64x48 : Shape := ⟨3, ![4, 64, 48]⟩
abbrev S64x48x4 : Shape := ⟨3, ![64, 48, 4]⟩
abbrev S64x42x4 : Shape := ⟨3, ![64, 42, 4]⟩
abbrev S4x16x42x4 : Shape := ⟨4, ![4, 16, 42, 4]⟩
abbrev S1x64x1 : Shape := ⟨3, ![1, 64, 1]⟩
abbrev S4x16 : Shape := ⟨2, ![4, 16]⟩

abbrev nBuf : Space → Nat
  | .hbm => 13
  | .vmem => 6
  | .smem => 1
  | _ => 0

abbrev bufTy : (tb : Table) → Fin (tcTables nBuf tb) → BufTy
  | .hbm, ⟨0, _⟩ => ⟨S4x16x512x512, .f32⟩
  | .hbm, ⟨1, _⟩ => ⟨S16, .i32⟩
  | .hbm, ⟨2, _⟩ => ⟨S64x1x640, .f32⟩
  | .hbm, ⟨3, _⟩ => ⟨S64x640, .f32⟩
  | .hbm, ⟨4, _⟩ => ⟨S5x64x48, .f32⟩
  | .hbm, ⟨5, _⟩ => ⟨S4x64x48, .f32⟩
  | .hbm, ⟨6, _⟩ => ⟨S64x48x4, .f32⟩
  | .hbm, ⟨7, _⟩ => ⟨S64x42x4, .f32⟩
  | .hbm, ⟨8, _⟩ => ⟨S4x16x42x4, .f32⟩
  | .hbm, ⟨9, _⟩ => ⟨S1x64x1, .f32⟩
  | .hbm, ⟨10, _⟩ => ⟨S64, .f32⟩
  | .hbm, ⟨11, _⟩ => ⟨S64, .i32⟩
  | .hbm, ⟨12, _⟩ => ⟨S4x16, .i32⟩
  | .local _ .vmem, ⟨0, _⟩ => ⟨S1x1x512x512, .f32⟩
  | .local _ .vmem, ⟨1, _⟩ => ⟨S1x1x512x512, .f32⟩
  | .local _ .vmem, ⟨2, _⟩ => ⟨S1x1x640, .f32⟩
  | .local _ .vmem, ⟨3, _⟩ => ⟨S1x1x640, .f32⟩
  | .local _ .vmem, ⟨4, _⟩ => ⟨S64x640, .f32⟩
  | .local _ .vmem, ⟨5, _⟩ => ⟨S5x64x48, .f32⟩
  | .local _ .smem, ⟨0, _⟩ => ⟨S4x2, .i32⟩
  | _, _ => ⟨S4x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![1], ![false]⟩

abbrev pre1 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 1 → Memref sig .tc .vmem S64x640 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S5x64x48 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]
-- ==== ReferenceIdeal.lean ====
abbrev S4x16x512x512 : Shape := ⟨4, ![4, 16, 512, 512]⟩
abbrev S16 : Shape := ⟨1, ![16]⟩
abbrev S4x2 : Shape := ⟨2, ![4, 2]⟩
abbrev S4x16x262144 : Shape := ⟨3, ![4, 16, 262144]⟩
abbrev S4x16x16x32x16x32 : Shape := ⟨6, ![4, 16, 16, 32, 16, 32]⟩
abbrev S262144 : Shape := ⟨1, ![262144]⟩
abbrev S16x32x16x32 : Shape := ⟨4, ![16, 32, 16, 32]⟩
abbrev S_ : Shape := ⟨0, ![]⟩
abbrev S4x16x16x16 : Shape := ⟨4, ![4, 16, 16, 16]⟩
abbrev S4x16x16x1x16x1 : Shape := ⟨6, ![4, 16, 16, 1, 16, 1]⟩
abbrev S4x16x256 : Shape := ⟨3, ![4, 16, 256]⟩
abbrev S4x16x256x1 : Shape := ⟨4, ![4, 16, 256, 1]⟩
abbrev S4x16x40 : Shape := ⟨3, ![4, 16, 40]⟩
abbrev S4x16 : Shape := ⟨2, ![4, 16]⟩
abbrev S4x16x1 : Shape := ⟨3, ![4, 16, 1]⟩
abbrev S4x1 : Shape := ⟨2, ![4, 1]⟩
abbrev S4 : Shape := ⟨1, ![4]⟩
abbrev S4x1x1 : Shape := ⟨3, ![4, 1, 1]⟩
abbrev S4x16x40x1 : Shape := ⟨4, ![4, 16, 40, 1]⟩
abbrev S4x16x40x4 : Shape := ⟨4, ![4, 16, 40, 4]⟩
abbrev S4x16x1x1 : Shape := ⟨4, ![4, 16, 1, 1]⟩
abbrev S4x16x1x4 : Shape := ⟨4, ![4, 16, 1, 4]⟩
abbrev S4x16x42x4 : Shape := ⟨4, ![4, 16, 42, 4]⟩
abbrev S1x16x1 : Shape := ⟨3, ![1, 16, 1]⟩
abbrev S4x16x1x3 : Shape := ⟨4, ![4, 16, 1, 3]⟩

abbrev nBuf : Space → Nat
  | .hbm => 161
  | .vmem => 0
  | .smem => 0
  | _ => 0

abbrev hbmTy0_0 (i : Nat) : BufTy := match i % 128 with
  | 0 => ⟨S4x16x512x512, .f32⟩
  | 1 => ⟨S16, .i32⟩
  | 2 => ⟨S4x2, .i32⟩
  | 3 => ⟨S4x16x262144, .f32⟩
  | 4 => ⟨S4x16x16x32x16x32, .f32⟩
  | 5 => ⟨S262144, .i32⟩
  | 6 => ⟨S16x32x16x32, .i32⟩
  | 7 => ⟨S_, .f32⟩
  | 8 => ⟨S4x16x16x32x16x32, .f32⟩
  | 9 => ⟨S4x16x16x32x16x32, .i1⟩
  | 10 => ⟨S_, .f32⟩
  | 11 => ⟨S_, .f32⟩
  | 12 => ⟨S4x16x16x32x16x32, .f32⟩
  | 13 => ⟨S4x16x16x32x16x32, .f32⟩
  | 14 => ⟨S_, .f32⟩
  | 15 => ⟨S4x16x16x16, .f32⟩
  | 16 => ⟨S4x16x16x1x16x1, .f32⟩
  | 17 => ⟨S4x16x16x32x16x32, .f32⟩
  | 18 => ⟨S4x16x16x32x16x32, .i1⟩
  | 19 => ⟨S4x16x16x32x16x32, .i1⟩
  | 20 => ⟨S_, .i32⟩
  | 21 => ⟨S_, .i32⟩
  | 22 => ⟨S4x16x16x32x16x32, .i32⟩
  | 23 => ⟨S4x16x16x32x16x32, .i32⟩
  | 24 => ⟨S4x16x16x32x16x32, .i32⟩
  | 25 => ⟨S_, .i32⟩
  | 26 => ⟨S4x16x16x16, .i32⟩
  | 27 => ⟨S4x16x256, .i32⟩
  | 28 => ⟨S4x16x16x1x16x1, .f32⟩
  | 29 => ⟨S_, .f32⟩
  | 30 => ⟨S4x16x16x1x16x1, .f32⟩
  | 31 => ⟨S4x16x16x1x16x1, .i1⟩
  | 32 => ⟨S4x16x256, .i1⟩
  | 33 => ⟨S_, .i32⟩
  | 34 => ⟨S_, .i32⟩
  | 35 => ⟨S4x16x256, .i32⟩
  | 36 => ⟨S4x16x256, .i32⟩
  | 37 => ⟨S_, .i32⟩
  | 38 => ⟨S4x16x256, .i32⟩
  | 39 => ⟨S4x16x256, .i1⟩
  | 40 => ⟨S_, .i32⟩
  | 41 => ⟨S4x16x256, .i32⟩
  | 42 => ⟨S4x16x256, .i32⟩
  | 43 => ⟨S4x16x256, .i32⟩
  | 44 => ⟨S4x16x256x1, .i32⟩
  | 45 => ⟨S4x16x256, .f32⟩
  | 46 => ⟨S_, .f32⟩
  | 47 => ⟨S_, .f32⟩
  | 48 => ⟨S4x16x256, .f32⟩
  | 49 => ⟨S4x16x256, .f32⟩
  | 50 => ⟨S4x16x256, .f32⟩
  | 51 => ⟨S4x16x256, .f32⟩
  | 52 => ⟨S4x16x256, .f32⟩
  | 53 => ⟨S4x16x256, .f32⟩
  | 54 => ⟨S4x16x256, .i32⟩
  | 55 => ⟨S4x16x256, .f32⟩
  | 56 => ⟨S4x16x40, .f32⟩
  | 57 => ⟨S4x16x40, .i32⟩
  | 58 => ⟨S4x16x40, .f32⟩
  | 59 => ⟨S_, .i32⟩
  | 60 => ⟨S4x16x40, .i32⟩
  | 61 => ⟨S4x16x40, .i32⟩
  | 62 => ⟨S4x16x40, .f32⟩
  | 63 => ⟨S_, .i32⟩
  | 64 => ⟨S4x16x40, .i32⟩
  | 65 => ⟨S4x16x40, .i32⟩
  | 66 => ⟨S4x16x40, .f32⟩
  | 67 => ⟨S4x16x256, .i32⟩
  | 68 => ⟨S_, .i32⟩
  | 69 => ⟨S4x16, .i32⟩
  | 70 => ⟨S_, .i32⟩
  | 71 => ⟨S4x16, .i32⟩
  | 72 => ⟨S4x16, .i32⟩
  | 73 => ⟨S4x16x262144, .f32⟩
  | 74 => ⟨S4x16x1, .f32⟩
  | 75 => ⟨S4x16x1, .i32⟩
  | 76 => ⟨S4x16x1, .f32⟩
  | 77 => ⟨S_, .i32⟩
  | 78 => ⟨S4x16x1, .i32⟩
  | 79 => ⟨S4x16x1, .i32⟩
  | 80 => ⟨S4x16x1, .f32⟩
  | 81 => ⟨S_, .i32⟩
  | 82 => ⟨S4x16x1, .i32⟩
  | 83 => ⟨S4x16x1, .i32⟩
  | 84 => ⟨S4x16x1, .f32⟩
  | 85 => ⟨S4x1, .i32⟩
  | 86 => ⟨S4, .i32⟩
  | 87 => ⟨S4, .f32⟩
  | 88 => ⟨S4x1x1, .f32⟩
  | 89 => ⟨S_, .f32⟩
  | 90 => ⟨S4x1x1, .f32⟩
  | 91 => ⟨S4x1x1, .f32⟩
  | 92 => ⟨S4x1, .i32⟩
  | 93 => ⟨S4, .i32⟩
  | 94 => ⟨S4, .f32⟩
  | 95 => ⟨S4x1x1, .f32⟩
  | 96 => ⟨S_, .f32⟩
  | 97 => ⟨S4x1x1, .f32⟩
  | 98 => ⟨S4x1x1, .f32⟩
  | 99 => ⟨S4x16x40, .f32⟩
  | 100 => ⟨S4x16x40, .f32⟩
  | 101 => ⟨S4x16x40, .f32⟩
  | 102 => ⟨S4x16x40, .f32⟩
  | 103 => ⟨S4x16x40, .f32⟩
  | 104 => ⟨S4x16x40, .f32⟩
  | 105 => ⟨S4x16x40, .f32⟩
  | 106 => ⟨S4x16x40x1, .f32⟩
  | 107 => ⟨S4x16x40x1, .f32⟩
  | 108 => ⟨S4x16x40x1, .f32⟩
  | 109 => ⟨S4x16x40x1, .f32⟩
  | 110 => ⟨S4x16x40x4, .f32⟩
  | 111 => ⟨S4x16x1, .f32⟩
  | 112 => ⟨S4x16x1, .f32⟩
  | 113 => ⟨S4x16x1, .f32⟩
  | 114 => ⟨S4x16x1, .f32⟩
  | 115 => ⟨S_, .f32⟩
  | 116 => ⟨S4x16x1, .f32⟩
  | 117 => ⟨S4x16x1x1, .f32⟩
  | 118 => ⟨S4x16x1x1, .f32⟩
  | 119 => ⟨S4x16x1x1, .f32⟩
  | 120 => ⟨S4x16x1x1, .f32⟩
  | 121 => ⟨S4x16x1x4, .f32⟩
  | 122 => ⟨S_, .i32⟩
  | 123 => ⟨S_, .f32⟩
  | 124 => ⟨S4x16x42x4, .f32⟩
  | 125 => ⟨S4, .i32⟩
  | 126 => ⟨S4x1x1, .i32⟩
  | 127 => ⟨S16, .i32⟩
  | _ => ⟨S4x16x512x512, .f32⟩

abbrev hbmTy0_1 (i : Nat) : BufTy := match i % 128 with
  | 0 => ⟨S1x16x1, .i32⟩
  | 1 => ⟨S4x16x1, .i32⟩
  | 2 => ⟨S_, .i32⟩
  | 3 => ⟨S4x1x1, .i32⟩
  | 4 => ⟨S4x1x1, .i1⟩
  | 5 => ⟨S_, .i32⟩
  | 6 => ⟨S4x1x1, .i32⟩
  | 7 => ⟨S4x1x1, .i32⟩
  | 8 => ⟨S4x1x1, .i32⟩
  | 9 => ⟨S_, .i32⟩
  | 10 => ⟨S1x16x1, .i32⟩
  | 11 => ⟨S1x16x1, .i1⟩
  | 12 => ⟨S_, .i32⟩
  | 13 => ⟨S1x16x1, .i32⟩
  | 14 => ⟨S1x16x1, .i32⟩
  | 15 => ⟨S1x16x1, .i32⟩
  | 16 => ⟨S_, .i32⟩
  | 17 => ⟨S4x16x1, .i32⟩
  | 18 => ⟨S4x16x1, .i1⟩
  | 19 => ⟨S_, .i32⟩
  | 20 => ⟨S4x16x1, .i32⟩
  | 21 => ⟨S4x16x1, .i32⟩
  | 22 => ⟨S4x16x1, .i32⟩
  | 23 => ⟨S4x16x1, .i32⟩
  | 24 => ⟨S4x16x1, .i32⟩
  | 25 => ⟨S4x16x1x1, .i32⟩
  | 26 => ⟨S4x16x1x1, .i32⟩
  | 27 => ⟨S4x16x1x1, .i32⟩
  | 28 => ⟨S4x16x1x3, .i32⟩
  | 29 => ⟨S4x16x42x4, .f32⟩
  | 30 => ⟨S_, .i32⟩
  | 31 => ⟨S4x16, .i32⟩
  | 32 => ⟨S4x16, .i32⟩
  | _ => ⟨S4x16x512x512, .f32⟩

abbrev hbmTy (i : Nat) : BufTy := match i / 128 with
  | 0 => hbmTy0_0 i
  | 1 => hbmTy0_1 i
  | _ => ⟨S4x16x512x512, .f32⟩

abbrev bufTy : (tb : Table) → Fin (tcTables nBuf tb) → BufTy
  | .hbm, ⟨i, _⟩ => hbmTy i
  | _, _ => ⟨S4x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_call2_v0 : Ref sig .tc := ⟨.hbm, 34, rfl⟩
abbrev main_call2_v1 : Ref sig .tc := ⟨.hbm, 35, rfl⟩
abbrev main_v19 : Ref sig .tc := ⟨.hbm, 36, rfl⟩
abbrev main_call3_c : Ref sig .tc := ⟨.hbm, 37, rfl⟩
abbrev main_call3_v0 : Ref sig .tc := ⟨.hbm, 38, rfl⟩
abbrev main_call3_v1 : Ref sig .tc := ⟨.hbm, 39, rfl⟩
abbrev main_call3_c_0 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_call3_v5 : Ref sig .tc := ⟨.hbm, 44, rfl⟩
abbrev main_v20 : Ref sig .tc := ⟨.hbm, 45, rfl⟩
abbrev main_cst_5 : Ref sig .tc := ⟨.hbm, 46, rfl⟩
abbrev main_call4_v0 : Ref sig .tc := ⟨.hbm, 47, rfl⟩
abbrev main_call4_v1 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24_0 : Ref sig .tc := ⟨.hbm, 52, rfl⟩
abbrev main_v24_1 : Ref sig .tc := ⟨.hbm, 53, rfl⟩
abbrev main_v24_2 : Ref sig .tc := ⟨.hbm, 54, rfl⟩
abbrev main_v24_3 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_6 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_7 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_c_8 : Ref sig .tc := ⟨.hbm, 68, rfl⟩
abbrev main_v35 : Ref sig .tc := ⟨.hbm, 69, rfl⟩
abbrev main_c_9 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_values : Ref sig .tc := ⟨.hbm, 74, rfl⟩
abbrev main_indices : Ref sig .tc := ⟨.hbm, 75, rfl⟩
abbrev main_v39 : Ref sig .tc := ⟨.hbm, 76, rfl⟩
abbrev main_c_10 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_c_11 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_12 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_13 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_14 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_c_15 : Ref sig .tc := ⟨.hbm, 122, rfl⟩
abbrev main_call5_v0 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_c_16 : Ref sig .tc := ⟨.hbm, 130, rfl⟩
abbrev main_v86 : Ref sig .tc := ⟨.hbm, 131, rfl⟩
abbrev main_v87 : Ref sig .tc := ⟨.hbm, 132, rfl⟩
abbrev main_c_17 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_c_18 : Ref sig .tc := ⟨.hbm, 137, rfl⟩
abbrev main_v91 : Ref sig .tc := ⟨.hbm, 138, rfl⟩
abbrev main_v92 : Ref sig .tc := ⟨.hbm, 139, rfl⟩
abbrev main_c_19 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_c_20 : Ref sig .tc := ⟨.hbm, 144, rfl⟩
abbrev main_v96 : Ref sig .tc := ⟨.hbm, 145, rfl⟩
abbrev main_v97 : Ref sig .tc := ⟨.hbm, 146, rfl⟩
abbrev main_c_21 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_c_22 : Ref sig .tc := ⟨.hbm, 158, rfl⟩
abbrev main_v108 : Ref sig .tc := ⟨.hbm, 159, rfl⟩
abbrev main_v109 : Ref sig .tc := ⟨.hbm, 160, rfl⟩

abbrev nD : Nat := 1
abbrev τ : Topo := Topo.v7x

variable {F : FTy → Type} [FloatOps F]
-- ==== Proof.Model.Reduce.lean ====
/- The reduction of one map, as vector operations: what the first kernel's body computes from the map it is
   handed, written once per strip and once per lane window instead of sixteen times. -/
module

public import Idealize.ShloMosaic.PureOps

@[expose] public section

set_option maxRecDepth 16384

noncomputable section

namespace Cert.Model

open Idealize.ShloMosaic

variable {F : FTy → Type} [FloatOps F]

/-! ## Shapes -/

abbrev Map4 : Shape := ⟨4, ![1, 1, 512, 512]⟩
abbrev Map : Shape := ⟨2, ![512, 512]⟩
abbrev Strip : Shape := ⟨2, ![32, 512]⟩
abbrev Lanes : Shape := ⟨1, ![512]⟩
abbrev Row : Shape := ⟨2, ![1, 512]⟩
abbrev Rows : Shape := ⟨2, ![16, 512]⟩
abbrev Rows3 : Shape := ⟨3, ![1, 16, 512]⟩
abbrev Win : Shape := ⟨2, ![16, 32]⟩
abbrev V16 : Shape := ⟨1, ![16]⟩
abbrev Col : Shape := ⟨2, ![16, 1]⟩
abbrev Cells : Shape := ⟨2, ![16, 16]⟩
abbrev CellRow : Shape := ⟨2, ![1, 16]⟩
abbrev CellFlat : Shape := ⟨2, ![1, 256]⟩
abbrev V1 : Shape := ⟨1, ![1]⟩
abbrev One3 : Shape := ⟨3, ![1, 1, 1]⟩
abbrev Tail : Shape := ⟨2, ![1, 128]⟩
abbrev Packed2 : Shape := ⟨2, ![1, 640]⟩
abbrev Packed3 : Shape := ⟨3, ![1, 1, 640]⟩

/-! ## Shape facts -/

theorem slices_strip (i : Fin 16) : Map.Slices ![32 * i.val, 0] Strip := by revert i; decide
theorem slices_win (j : Fin 16) : Rows.Slices ![0, 32 * j.val] Win := by revert j; decide
theorem slices_cellRow (g : Fin 16) : Cells.Slices ![g.val, 0] CellRow := by revert g; decide

/-! ## One strip of thirty-two rows -/

/-- Strip `i` of a map: its rows `32 i` to `32 i + 31`. -/
def strip {α : Type} (i : Fin 16) (x : Map.Idx → α) : Strip.Idx → α :=
  extractStridedSlice Strip ![32 * i.val, 0] x (slices_strip i)

/-- The row numbers of strip `i`. -/
def stripRows (i : Fin 16) : IVec Strip 32 :=
  addi (iota .tc Strip 32 [0] (by decide)) (broadcast Strip (BitVec.ofNat 32 (32 * i.val)))

/-- The greatest value of each lane of strip `i`. -/
def stripMax (m : FVec F Map .f32) (i : Fin 16) : FVec F Row .f32 :=
  shapeCast Row (multiReduction .maximumf [0] Lanes (strip i m) 0xFF800000#32 (by decide) (.inl rfl) rfl) (by decide)

/-- The least value of each lane of strip `i`. -/
def stripMin (m : FVec F Map .f32) (i : Fin 16) : FVec F Row .f32 :=
  shapeCast Row (multiReduction .minimumf [0] Lanes (strip i m) 0x7F800000#32 (by decide) (.inl rfl) rfl) (by decide)

/-- The lowest row of strip `i` at which each lane holds the value `v` gives for it. -/
def stripArg (m : FVec F Map .f32) (v : Fin 16 → FVec F Row .f32) (i : Fin 16) : IVec Row 32 :=
  shapeCast Row (multiReductionI .minsi [0] Lanes
    (select (cmpf .oeq (strip i m) (broadcastTo Strip (v i) (by decide))) (stripRows i) (broadcast Strip 268435456#32))
    2147483647#32 (by decide) rfl) (by decide)

/-- Sixteen rows, one per strip, on top of one another. -/
def stack {α : Type} (f : Fin 16 → Row.Idx → α) : Rows.Idx → α :=
  concatenate Rows 0 (List.ofFn fun i => ⟨Row, f i⟩) (by simp only [List.map_ofFn, Function.comp_def]; decide)

/-! ## One window of thirty-two lanes -/

/-- Lane window `j` of a stack of rows: its lanes `32 j` to `32 j + 31`. -/
def win {α : Type} (j : Fin 16) (x : Rows.Idx → α) : Win.Idx → α :=
  extractStridedSlice Win ![0, 32 * j.val] x (slices_win j)

/-- The greatest value of each row of window `j`. -/
def winMax (s : FVec F Rows .f32) (j : Fin 16) : FVec F Col .f32 :=
  shapeCast Col (multiReduction .maximumf [1] V16 (win j s) 0xFF800000#32 (by decide) (.inl rfl) rfl) (by decide)

/-- The flat positions of window `j`: the row number held at a place, times 512, and the lane. -/
def winFlat (r : IVec Rows 32) (j : Fin 16) : IVec Win 32 :=
  addi (muli (win j r) (broadcast Win 512#32))
    (addi (iota .tc Win 32 [1] (by decide)) (broadcast Win (BitVec.ofNat 32 (32 * j.val))))

/-- The lowest flat position of each row of window `j` at which the row's greatest value stands. -/
def winArg (s : FVec F Rows .f32) (r : IVec Rows 32) (j : Fin 16) : IVec Col 32 :=
  shapeCast Col (multiReductionI .minsi [1] V16
    (select (cmpf .oeq (win j s) (broadcastTo Win (winMax s j) (by decide))) (winFlat r j) (broadcast Win 268435456#32))
    2147483647#32 (by decide) rfl) (by decide)

/-- Sixteen columns, one per window, side by side. -/
def side {α : Type} (f : Fin 16 → Col.Idx → α) : Cells.Idx → α :=
  concatenate Cells 1 (List.ofFn fun j => ⟨Col, f j⟩) (by simp only [List.map_ofFn, Function.comp_def]; decide)

/-! ## The whole map -/

/-- Row `g` of the table of cells. -/
def cellRow {α : Type} (g : Fin 16) (x : Cells.Idx → α) : CellRow.Idx → α :=
  extractStridedSlice CellRow ![g.val, 0] x (slices_cellRow g)

/-- Sixteen rows of cells, end to end. -/
def endToEnd {α : Type} (f : Fin 16 → CellRow.Idx → α) : CellFlat.Idx → α :=
  concatenate CellFlat 1 (List.ofFn fun g => ⟨CellRow, f g⟩) (by simp only [List.map_ofFn, Function.comp_def]; decide)

/-- The map with every value that is not over the threshold replaced by `-∞`. -/
def masked (x : FVec F Map .f32) : FVec F Map .f32 :=
  select (cmpf .ogt x (broadcast Map (Scalar.ofBits .f32 0x3F266666#32))) x (broadcast Map (Scalar.ofBits .f32 0xFF800000#32))

/-- The least of sixteen rows' values. -/
def leastOf (s : FVec F Rows .f32) : F .f32 :=
  extractAt ![0, 0, 0] (shapeCast One3 (multiReduction .minimumf [1, 2] V1 (shapeCast Rows3 s (by decide)) 0x7F800000#32
    (by decide) (.inl rfl) rfl) (by decide)) (by decide)

/-- The lowest flat position of the sixteen rows at which the value `v` stands. -/
def leastAt (s : FVec F Rows .f32) (r : IVec Rows 32) (v : F .f32) : BitVec 32 :=
  extractAt ![0, 0, 0] (shapeCast One3 (multiReductionI .minsi [1, 2] V1 (shapeCast Rows3
    (select (cmpf .oeq s (broadcast Rows v)) (addi (muli r (broadcast Rows 512#32)) (iota .tc Rows 32 [1] (by decide)))
      (broadcast Rows 268435456#32)) (by decide)) 2147483647#32 (by decide) rfl) (by decide)) (by decide)

/-- The last 128 lanes: `a` in the first, `b` in the second, zero behind. -/
def tail (a b : F .f32) : FVec F Tail .f32 :=
  select (cmpi .eq (iota .tc Tail 32 [1] (by decide)) (broadcast Tail 0#32)) (broadcast Tail a)
    (select (cmpi .eq (iota .tc Tail 32 [1] (by decide)) (broadcast Tail 1#32)) (broadcast Tail b)
      (broadcast Tail (Scalar.ofBits .f32 0x00000000#32)))

/-- The cells' maxima, `[16, 16]`. -/
def cellMax (x : FVec F Map .f32) : FVec F Cells .f32 := side (winMax (stack (stripMax (masked x))))

/-- The cells' flat positions of their maxima, `[16, 16]`. -/
def cellArg (x : FVec F Map .f32) : IVec Cells 32 :=
  side (winArg (stack (stripMax (masked x))) (stack (stripArg (masked x) (stripMax (masked x)))))

/-- The map's least value. -/
def mapMin (x : FVec F Map .f32) : F .f32 := leastOf (stack (stripMin x))

/-- The lowest flat position of the map's least value. -/
def mapArg (x : FVec F Map .f32) : BitVec 32 := leastAt (stack (stripMin x)) (stack (stripArg x (stripMin x))) (mapMin x)

/-- What the reduction stores for the map `x`: the cells' maxima, the positions of these as floats, and the position and the
    value of the map's minimum. -/
def packed (x : FVec F Map .f32) : FVec F Packed2 .f32 :=
  concatenate Packed2 1 [⟨CellFlat, endToEnd fun g => cellRow g (cellMax x)⟩,
    ⟨CellFlat, endToEnd fun g => (sitofp .f32 (cellRow g (cellArg x)) : FVec F CellRow .f32)⟩,
    ⟨Tail, tail (Scalar.sitofp .f32 (mapArg x)) (mapMin x)⟩] (by show Shape.Concatenates [CellFlat, CellFlat, Tail] Packed2 1; decide)

/-- The same from the block the body loads and to the block it stores, with their axes of size one. -/
def reduce (x : FVec F Map4 .f32) : FVec F Packed3 .f32 :=
  shapeCast Packed3 (packed (shapeCast Map x (by decide))) (by decide)

end Cert.Model

end
-- ==== Proof.Model.Select.lean ====
/- The selection over all maps, as vector operations: what the second kernel's body computes from the packed rows and
   the sizes, its forty rounds written as one round. -/
module

public import Idealize.ShloMosaic.PureOps

@[expose] public section

set_option maxRecDepth 16384

noncomputable section

namespace Cert.Model

open Idealize.ShloMosaic

variable {F : FTy → Type} [FloatOps F]

abbrev Pk : Shape := ⟨2, ![64, 640]⟩
abbrev Tab : Shape := ⟨2, ![64, 256]⟩
abbrev C64 : Shape := ⟨2, ![64, 1]⟩
abbrev V64 : Shape := ⟨1, ![64]⟩
abbrev Plane : Shape := ⟨2, ![64, 48]⟩
abbrev Plane3 : Shape := ⟨3, ![1, 64, 48]⟩
abbrev Sizes : Shape := ⟨2, ![4, 2]⟩

/-! ## The packed rows' parts -/

/-- The packed rows as loaded: a cast of the shape to itself. -/
def whole (X : FVec F Pk .f32) : FVec F Pk .f32 := shapeCast Pk X (by decide)

/-- The cells' maxima of all maps. -/
def scores (X : FVec F Pk .f32) : FVec F Tab .f32 := extractStridedSlice Tab ![0, 0] (whole X) (by decide)
/-- The cells' positions of all maps, as floats. -/
def places (X : FVec F Pk .f32) : FVec F Tab .f32 := extractStridedSlice Tab ![0, 256] (whole X) (by decide)
/-- The position of each map's minimum, as a float. -/
def minPlace (X : FVec F Pk .f32) : FVec F C64 .f32 := extractStridedSlice C64 ![0, 512] (whole X) (by decide)
/-- Each map's minimum. -/
def minValue (X : FVec F Pk .f32) : FVec F C64 .f32 := extractStridedSlice C64 ![0, 513] (whole X) (by decide)

/-- Which cells hold a maximum over the threshold. -/
def valid (X : FVec F Pk .f32) : IVec Tab 1 := cmpf .ogt (scores X) (broadcast Tab (Scalar.ofBits .f32 0x3F266666#32))

/-- How many foreground points each map gets: its valid cells, forty at most. -/
def count (X : FVec F Pk .f32) : IVec C64 32 :=
  minsi (shapeCast C64 (multiReductionI .add [1] V64 (extui 32 (valid X) (by decide)) 0#32 (by decide) rfl) (by decide))
    (broadcast C64 40#32)

/-- The keys the rounds start from: a valid cell's maximum, and the sentinel elsewhere. -/
def firstKeys (X : FVec F Pk .f32) : FVec F Tab .f32 :=
  select (valid X) (scores X) (broadcast Tab (Scalar.ofBits .f32 0xF149F2CA#32))

/-! ## One round -/

/-- The cells' numbers. -/
def cellNo : IVec Tab 32 := iota .tc Tab 32 [1] (by decide)

/-- Each map's greatest key. -/
def best (s : FVec F Tab .f32) : FVec F C64 .f32 :=
  shapeCast C64 (multiReduction .maximumf [1] V64 s 0xFF800000#32 (by decide) (.inl rfl) rfl) (by decide)

/-- The lowest cell holding the greatest key. -/
def bestCell (s : FVec F Tab .f32) : IVec C64 32 :=
  shapeCast C64 (multiReductionI .minsi [1] V64
    (select (cmpf .oeq s (broadcastTo Tab (best s) (by decide))) cellNo (broadcast Tab 4096#32)) 2147483647#32 (by decide) rfl)
    (by decide)

/-- The mark of that cell. -/
def hit (s : FVec F Tab .f32) : IVec Tab 1 := cmpi .eq cellNo (broadcastTo Tab (bestCell s) (by decide))

/-- The position that cell carries. -/
def bestPlace (p s : FVec F Tab .f32) : FVec F C64 .f32 :=
  shapeCast C64 (multiReduction .minimumf [1] V64 (select (hit s) p (broadcast Tab (Scalar.ofBits .f32 0x4D800000#32)))
    0x7F800000#32 (by decide) (.inl rfl) rfl) (by decide)

/-- The keys after a round: the chosen cell's is the sentinel. -/
def nextKeys (s : FVec F Tab .f32) : FVec F Tab .f32 :=
  select (hit s) (broadcast Tab (Scalar.ofBits .f32 0xF149F2CA#32)) s

/-- The keys before round `k`. -/
def keysAt (s : FVec F Tab .f32) (k : ℕ) : FVec F Tab .f32 := Nat.rec s (fun _ t => nextKeys t) k

/-- One where a round's greatest key is over the threshold, zero elsewhere. -/
def over (b : FVec F C64 .f32) : FVec F C64 .f32 :=
  sitofp .f32 (extui 32 (cmpf .ogt b (broadcast C64 (Scalar.ofBits .f32 0x3F266666#32))) (by decide))

/-- The row of a flat position. -/
def rowOf (p : FVec F C64 .f32) : FVec F C64 .f32 := floor (mulf p (broadcast C64 (Scalar.ofBits .f32 0x3B000000#32)))

/-- The lane of a flat position. -/
def laneOf (p : FVec F C64 .f32) : FVec F C64 .f32 := subf p (mulf (rowOf p) (broadcast C64 (Scalar.ofBits .f32 0x44000000#32)))

/-! ## The planes -/

/-- Forty columns side by side, eight columns of zeros behind. -/
def plane (f : ℕ → FVec F C64 .f32) : FVec F Plane .f32 :=
  concatenate Plane 1 (List.ofFn fun k : Fin 48 => ⟨C64, if k.val < 40 then f k.val else broadcast C64 (Scalar.ofBits .f32 0x00000000#32)⟩)
    (by simp only [List.map_ofFn, Function.comp_def]; decide)

/-- The image each map belongs to: its number divided by sixteen, rounded down. -/
def image : IVec C64 32 :=
  select (andi (cmpi .ne (subi (extui 32 (cmpi .sgt (iota .tc C64 32 [0] (by decide)) (broadcast C64 0#32)) (by decide))
        (extui 32 (cmpi .slt (iota .tc C64 32 [0] (by decide)) (broadcast C64 0#32)) (by decide)))
        (broadcast C64 (Scalar.subi (Scalar.extui (Scalar.cmpi .sgt (16#32 : BitVec 32) 0#32)) (Scalar.extui (Scalar.cmpi .slt (16#32 : BitVec 32) 0#32)))))
      (cmpi .ne (remsi (iota .tc C64 32 [0] (by decide)) (broadcast C64 16#32)) (broadcast C64 0#32)))
    (subi (divsi (iota .tc C64 32 [0] (by decide)) (broadcast C64 16#32)) (broadcast C64 1#32))
    (divsi (iota .tc C64 32 [0] (by decide)) (broadcast C64 16#32))

/-- A number per image as a column over the maps. -/
def perImage (z : Fin 4 → BitVec 32) : FVec F C64 .f32 :=
  select (cmpi .eq image (broadcast C64 3#32)) (broadcast C64 (Scalar.sitofp .f32 (z 3)))
    (select (cmpi .eq image (broadcast C64 2#32)) (broadcast C64 (Scalar.sitofp .f32 (z 2)))
      (select (cmpi .eq image (broadcast C64 1#32)) (broadcast C64 (Scalar.sitofp .f32 (z 1)))
        (select (cmpi .eq image (broadcast C64 0#32)) (broadcast C64 (Scalar.sitofp .f32 (z 0)))
          (broadcast C64 (Scalar.ofBits .f32 0x00000000#32)))))

/-- The scale of one axis: the image's size over 512. -/
def scale (z : Fin 4 → BitVec 32) : FVec F C64 .f32 := mulf (perImage z) (broadcast C64 (Scalar.ofBits .f32 0x3B000000#32))

/-- A column copied over the lanes of a plane. -/
def wide {α : Type} (c : C64.Idx → α) : Plane.Idx → α := broadcastTo Plane c (by decide)

/-- The mark of the background point's slot: the one behind the foreground points. -/
def slot (X : FVec F Pk .f32) : IVec Plane 1 := cmpi .eq (iota .tc Plane 32 [1] (by decide)) (wide (count X))

/-- The plane that says which slots hold a foreground point. -/
def planeV (X : FVec F Pk .f32) : FVec F Plane .f32 := plane fun k => over (best (keysAt (firstKeys X) k))

/-- The `x` plane. -/
def outX (zw : Fin 4 → BitVec 32) (X : FVec F Pk .f32) : FVec F Plane .f32 :=
  select (slot X) (wide (shapeCast C64 (mulf (laneOf (minPlace X)) (scale zw)) (by decide)))
    (mulf (mulf (plane fun k => laneOf (bestPlace (places X) (keysAt (firstKeys X) k))) (wide (scale zw))) (planeV X))

/-- The `y` plane. -/
def outY (zh : Fin 4 → BitVec 32) (X : FVec F Pk .f32) : FVec F Plane .f32 :=
  select (slot X) (wide (shapeCast C64 (mulf (rowOf (minPlace X)) (scale zh)) (by decide)))
    (mulf (mulf (plane fun k => rowOf (bestPlace (places X) (keysAt (firstKeys X) k))) (wide (scale zh))) (planeV X))

/-- The plane of the scores. -/
def outS (X : FVec F Pk .f32) : FVec F Plane .f32 :=
  select (slot X) (wide (shapeCast C64 (minValue X) (by decide)))
    (mulf (plane fun k => best (keysAt (firstKeys X) k)) (planeV X))

/-- The plane of the labels. -/
def outV (X : FVec F Pk .f32) : FVec F Plane .f32 :=
  select (slot X) (broadcast Plane (Scalar.ofBits .f32 0x00000000#32)) (planeV X)

/-- The plane of the counts: every lane the map's number of points. -/
def outN (X : FVec F Pk .f32) : FVec F Plane .f32 :=
  addf (wide (addf (sitofp .f32 (count X)) (broadcast C64 (Scalar.ofBits .f32 0x3F800000#32)) : FVec F C64 .f32))
    (broadcast Plane (Scalar.ofBits .f32 0x00000000#32))

/-- A plane with the axis of size one it is stored through. -/
def asPlane3 (p : FVec F Plane .f32) : FVec F Plane3 .f32 := shapeCast Plane3 p (by decide)

end Cert.Model

end
-- ==== Proof.KernelIdeal.BodyReduce.lean ====
/- One run of the first kernel's body: it leaves the packed row of its map. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.Model.Reduce

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The map the body reads. -/
abbrev rIn : Rect S1x1x512x512 := Rect.unit (s := S1x1x512x512) ![0, 0, 0, 0] S1x1x512x512.size inb_S1x1x512x512_S1x1x512x512_0_0_0_0
/-- The row it writes. -/
abbrev rOut : Rect S1x1x640 := Rect.unit (s := S1x1x640) ![0, 0, 0] S1x1x640.size inb_S1x1x640_S1x1x640_0_0_0

/-- What the body leaves in the row's buffer, from the map. -/
def reduceOut (x : Vec F S1x1x512x512 .f32) : Vec F S1x1x640 .f32 := View.canon [⟨rOut, Model.reduce (View.ld x rIn)⟩]

/-- The one store covers the row. -/
theorem reduce_cover (p : Vec F S1x1x640 .f32) (y : S1x1x640.Idx) :
    ∃ pc ∈ ([⟨rOut, p⟩] : List (View.Piece (Elt F) S1x1x640 .f32)), y ∈ pc.1.set :=
  View.cover_of_tiled [⟨rOut, p⟩] S1x1x640.size (by rfl) y

set_option maxHeartbeats 26779000 in
/-- Run on a map `x`, the body ends with the map as it was and the row at `reduceOut x`. -/
theorem reduce_body (c : Dev nD) (E : Set ℕ) (i : grid0.Coords) (arg1 : Memref sig .tc .vmem S1x1x512x512 .f32) (harg1 : arg1.IsWhole)
    (arg2 : Memref sig .tc .vmem S1x1x640 .f32) (harg2 : arg2.IsWhole) (x : Vec F S1x1x512x512 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (reduceOut x)) -∗ K ⟨⟩))
      ⊢ wp frame (wpE (defs₀ (F := F)) Variants.none c none) E (cc0__reduce_body i arg1 harg1 arg2 harg2) K := by
  simp only [cc0__reduce_body_eq_skeleton]; unfold cc0__reduce_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (reduce_cover _)).trans ?_
  sl_kernel_rfl

end Cert.KernelIdeal.Body

end
-- ==== Proof.KernelIdeal.BodySelect.lean ====
/- The one run of the second kernel's body: it leaves the five planes. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.Model.Select

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of sizes as the body is handed it. -/
abbrev tbM : Memref sig .tc .smem S4x2 .i32 := Memref.whole main_arg2
abbrev htbM : tbM.IsWhole := Memref.isWhole_whole _
/-- The table's contents, and the table held for reading. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare} f

/-- The packed rows the body reads. -/
abbrev rRows : Rect S64x640 := Rect.unit (s := S64x640) ![0, 0] S64x640.size inb_S64x640_S64x640_0_0
/-- The five planes it writes. -/
abbrev rP0 : Rect S5x64x48 := Rect.unit (s := S5x64x48) ![0, 0, 0] S1x64x48.size inb_S5x64x48_S1x64x48_0_0_0
abbrev rP1 : Rect S5x64x48 := Rect.unit (s := S5x64x48) ![1, 0, 0] S1x64x48.size inb_S5x64x48_S1x64x48_1_0_0
abbrev rP2 : Rect S5x64x48 := Rect.unit (s := S5x64x48) ![2, 0, 0] S1x64x48.size inb_S5x64x48_S1x64x48_2_0_0
abbrev rP3 : Rect S5x64x48 := Rect.unit (s := S5x64x48) ![3, 0, 0] S1x64x48.size inb_S5x64x48_S1x64x48_3_0_0
abbrev rP4 : Rect S5x64x48 := Rect.unit (s := S5x64x48) ![4, 0, 0] S1x64x48.size inb_S5x64x48_S1x64x48_4_0_0

/-- The five planes, the last stored first. -/
def selectPieces (z : Fin 4 → Fin 2 → BitVec 32) (X : FVec F S64x640 .f32) : List (View.Piece (Elt F) S5x64x48 .f32) :=
  [⟨rP4, Model.asPlane3 (Model.outN X)⟩, ⟨rP3, Model.asPlane3 (Model.outV X)⟩, ⟨rP2, Model.asPlane3 (Model.outS X)⟩,
   ⟨rP1, Model.asPlane3 (Model.outY (fun t => z t 0) X)⟩, ⟨rP0, Model.asPlane3 (Model.outX (fun t => z t 1) X)⟩]

theorem inb_size (t : Fin 4) (d : Fin 2) : ∀ a, (![t.val, d.val] : Fin 2 → ℕ) a + S1x1.size a ≤ S4x2.size a := by
  revert t d; decide

/-- The element of the table at a row and a column, as the body loads it. -/
def sizeOf (c : Dev nD) (T : TbBuf (F := F) c tbM) (t : Fin 4) (d : Fin 2) : BitVec 32 :=
  View.readAt (Elt F) tbM.view (Rect.unit (s := S4x2) ![t.val, d.val] S1x1.size (inb_size t d)).toLoadRect T (Shape.Idx.first (show 0 < S1x1.numel by decide))

/-- What the body leaves in the planes' buffer, from the table and the packed rows. -/
def selectOut (c : Dev nD) (T : TbBuf (F := F) c tbM) (x : Vec F S64x640 .f32) : Vec F S5x64x48 .f32 :=
  View.canon (selectPieces (sizeOf c T) (View.ld x rRows))

/-- The five stores cover the planes. -/
theorem select_cover (p0 p1 p2 p3 p4 : Vec F S1x64x48 .f32) (y : S5x64x48.Idx) :
    ∃ pc ∈ ([⟨rP4, p4⟩, ⟨rP3, p3⟩, ⟨rP2, p2⟩, ⟨rP1, p1⟩, ⟨rP0, p0⟩] : List (View.Piece (Elt F) S5x64x48 .f32)), y ∈ pc.1.set :=
  View.cover_of_tiled [⟨rP4, p4⟩, ⟨rP3, p3⟩, ⟨rP2, p2⟩, ⟨rP1, p1⟩, ⟨rP0, p0⟩] S1x64x48.size (by rfl) y

set_option maxHeartbeats 26779000 in
/-- Run on a table `xt` and packed rows `x`, the body ends with both as they were and the planes at `selectOut c xt x`. -/
theorem select_body (c : Dev nD) (i : grid1.Coords) (arg2 : Memref sig .tc .vmem S64x640 .f32) (harg2 : arg2.IsWhole)
    (arg3 : Memref sig .tc .vmem S5x64x48 .f32) (harg3 : arg3.IsWhole) (x : Vec F S64x640 .f32) (xt : TbBuf (F := F) c tbM)
    (E : Set ℕ) (K : PUnit → sProp 𝕄) :
    iprop(owns (c : Thread nD τ) arg2 fullShare x ∗ (∃ d, owns (c : Thread nD τ) arg3 fullShare d) ∗ tbPt c tbM xt
        ∗ (iprop(owns (c : Thread nD τ) arg2 fullShare x ∗ owns (c : Thread nD τ) arg3 fullShare (selectOut c xt x) ∗ tbPt c tbM xt) -∗ K ⟨⟩))
      ⊢ wp frame (wpE (defs₀ (F := F)) Variants.none c none) E (cc1__select_body i tbM htbM arg2 harg2 arg3 harg3) K := by
  simp only [cc1__select_body_eq_skeleton]; unfold cc1__select_body_skel
  simp only [k1_part27_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton]
  unfold owns
  iintro ⟨⟨%f0, %hf0, H0⟩, ⟨%d1, %f1, -, H1⟩, HT0, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (select_cover _ _ _ _ _)).trans ?_
    sl_kernel_rfl
  iexact HT0

end Cert.KernelIdeal.Body

end
-- ==== Proof.KernelIdeal.Run.lean ====
/- The whole run: both calls and the host operations between and after them, with what every buffer holds at the end. -/
module

public import proofs.«01_k».proof.Proof.Gen.KernelIdeal.Regions
public import proofs.«01_k».proof.Proof.KernelIdeal.BodyReduce
public import proofs.«01_k».proof.Proof.KernelIdeal.BodySelect
public import Idealize.ShloMosaic.Lib.Pipeline.RegionArraysTS
public import Idealize.ShloMosaic.Lib.Claim

@[expose] public section

set_option maxRecDepth 16384

noncomputable section

namespace Cert.KernelIdeal.Body

open Cert.KernelIdeal.Gen (launch0 launch1 cellOf_inj bigSep_W0 bigSep_W1 hostOps1 hostOps2 hostOps1_sub hostOps2_sub hostOps1_fresh hostOps2_fresh
  hostOps1_W hostOps2_W hostOps1_writes hostOps2_writes main_chain regions_no_unscoped st0_0 st0_1 bodyAt0)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The first call -/

section Call0
variable (V : (c : Dev nD) → (b : Ref sig .tc) → Buf (Elt F) ((c : Thread nD τ).loc b))

/-- Window `w`'s block at a point, read off its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first call's proof data: each point leaves its map in place and the packed row of it. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => reduceOut (blk0 V c 0 t)
  Φ _ := Pipeline.ΦA spec0 c
  q _ := fullShare
  owed _ := 0

theorem dat0_A (c : Dev nD) (w : Fin cfg0.W) : (dat0 V c).A w = V c (Pipeline.arrRef spec0 w) := by dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = reduceOut (blk0 V c 0 t) := by dsimp only [dat0]

/-- The input's buffer holds the point's map. -/
theorem dat0_before (c : Dev nD) (t : Fin cfg0.N) (d) : (dat0 V c).before 0 t d = blk0 V c 0 t :=
  ((dat0 V c).before_in_eq_fetched 0 rfl (fun _ => rfl) (fun _ _ _ => rfl)
    (fun t => by rw [dat0_after0]; unfold Dat.blockOf blk0; rw [dat0_A]) t d).trans
    (by unfold Dat.fetched Dat.blockOf blk0; rw [dat0_A]; rfl)

def pre0P (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def post0P (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at a point takes the proof data's state before it to the one after it. -/
theorem point0 (c : Dev nD) (t : Fin cfg0.N) :
    pre0P V c t ⊢ wp frame (wpE (defs₀ (F := F)) Variants.none c none) Set.univ (bodyAt0 t) (fun _ => post0P V c t) := by
  unfold pre0P post0P bodyAt0
  simp only [dat0_before]
  rw [show (dat0 V c).Φ t.succ = (dat0 V c).Φ t.castSucc from rfl,
    show (dat0 V c).owesAt () t.succ = (dat0 V c).owesAt () t.castSucc from rfl, dat0_after0, dat0_after1]
  iintro ⟨HΦ, Ho, ⟨%d0, H0⟩, ⟨%d1, H1⟩⟩
  iapply (reduce_body c Set.univ (grid0.coords t) _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem row0 (t : Fin cfg0.N) : defs₀ (F := F) .tc cfg0.body (cfg0.bodyArgs t (cfg0.slots t)) = bodyAt0 t := by
  unfold defs₀; rw [Defs.onTc_tc]

theorem obligation0 (c : Dev nD) : BodyObligation (dat0 (F := F) V c) (defs₀ (F := F)) Variants.none () Set.univ := fun t => by
  rw [bigSep_W0, bigSep_W0, row0]
  exact triple_restated (point0 V c t) rfl .rfl fun _ => .rfl

end Call0

/-! ## The second call -/

/-- The table of sizes as launched (there is one device). -/
def tbl : pre1.Contents (Elt F) := fun j => m (((0 : Dev nD) : Thread nD τ).loc (pre1.ref j))
/-- It is admissible: no index map reads it. -/
abbrev adm1 : (pcfg1 (F := F)).Adm := ⟨tbl m, trivial⟩
abbrev cfgM : Pipeline.Cfg sig Λ₀ := cfg1 (adm1 m)

/-- The table held whole, as the body reads it. -/
theorem tables_eq (c : Dev nD) : (Pipeline.prefHeld pre1 c (fun _ => fullShare) (tbl m) : sProp 𝕄) = tbPt c tbM (tbl m 0) := by
  unfold Pipeline.prefHeld
  rw [show (Finset.univ : Finset (Fin 1)) = {(0 : Fin 1)} from by decide, bigSep_singleton]
  rfl

section Call1
variable (V : (c : Dev nD) → (b : Ref sig .tc) → Buf (Elt F) ((c : Thread nD τ).loc b))

/-- Window `w`'s block at a point, read off its array. -/
def blk1 (c : Dev nD) (w : Fin (cfgM m).W) (t : Fin (cfgM m).N) : (((cfgM m).win w).xblock ((cfgM m).grid.coords t)).Idx → Elt F ((cfgM m).win w).elt :=
  (((cfgM m).win w).blk t).view.read (Elt F) (V c (Pipeline.arrRef spec1 w))

/-- The second call's proof data: the packed rows in place and the planes of them. -/
def dat1 (c : Dev nD) : Dat τ (Elt F) Unit ℕ (UR sig nD τ) ℕ (cfgM m) c where
  A w := V c (Pipeline.arrRef spec1 w)
  after w t := match w with
    | ⟨0, _⟩ => blk1 m V c 0 t
    | ⟨1, _⟩ => selectOut c (tbl m 0) (blk1 m V c 0 t)
  Φ _ := iprop(Pipeline.ΦA spec1 c ∗ Pipeline.prefHeld pre1 c (fun _ => fullShare) (tbl m))
  q _ := fullShare
  owed _ := 0

theorem dat1_A (c : Dev nD) (w : Fin (cfgM m).W) : (dat1 m V c).A w = V c (Pipeline.arrRef spec1 w) := by dsimp only [dat1]
theorem dat1_after0 (c : Dev nD) (t : Fin (cfgM m).N) : (dat1 m V c).after 0 t = blk1 m V c 0 t := by dsimp only [dat1]; try rfl
theorem dat1_after1 (c : Dev nD) (t : Fin (cfgM m).N) : (dat1 m V c).after 1 t = selectOut c (tbl m 0) (blk1 m V c 0 t) := by dsimp only [dat1]; try rfl

/-- The input's buffer holds the packed rows. -/
theorem dat1_before (c : Dev nD) (t : Fin (cfgM m).N) (d) : (dat1 m V c).before 0 t d = blk1 m V c 0 t :=
  ((dat1 m V c).before_in_eq_fetched 0 rfl (fun _ => rfl) (fun _ _ _ => rfl)
    (fun t => by rw [dat1_after0]; unfold Dat.blockOf blk1; rw [dat1_A]) t d).trans
    (by unfold Dat.fetched Dat.blockOf blk1; rw [dat1_A]; try rfl)

/-- The staging memrefs at a point. -/
abbrev ms0 (t : Fin (cfgM m).N) : Memref sig .tc .vmem S64x640 .f32 := spec1_0.stage ((cfgM m).slots t 0)
abbrev hs0 (t : Fin (cfgM m).N) : (ms0 m t).IsWhole := Gen.hstage1_0 (((cfgM m).slots t 0).cast Gen.nbuf1_0)
abbrev ms1 (t : Fin (cfgM m).N) : Memref sig .tc .vmem S5x64x48 .f32 := spec1_1.stage ((cfgM m).slots t 1)
abbrev hs1 (t : Fin (cfgM m).N) : (ms1 m t).IsWhole := Gen.hstage1_1 (((cfgM m).slots t 1).cast Gen.nbuf1_1)
/-- The body at a point. -/
abbrev bodyAt1 (t : Fin (cfgM m).N) : Prog (TpuEff nD τ sig (Elt F) Λ₀ .tc) PUnit :=
  cc1__select_body ((cfgM m).grid.coords t) tbM htbM (ms0 m t) (hs0 m t) (ms1 m t) (hs1 m t)

def pre1P (c : Dev nD) (t : Fin (cfgM m).N) : sProp 𝕄 :=
  iprop((dat1 m V c).Φ t.castSucc ∗ (dat1 m V c).owesAt () t.castSucc
    ∗ (∃ d, owns (c : Thread nD τ) (ms0 m t) fullShare ((dat1 m V c).before 0 t d))
    ∗ (∃ d, owns (c : Thread nD τ) (ms1 m t) fullShare ((dat1 m V c).before 1 t d)))

def post1P (c : Dev nD) (t : Fin (cfgM m).N) : sProp 𝕄 :=
  iprop((dat1 m V c).Φ t.succ ∗ (dat1 m V c).owesAt () t.succ
    ∗ owns (c : Thread nD τ) (ms0 m t) fullShare ((dat1 m V c).after 0 t)
    ∗ owns (c : Thread nD τ) (ms1 m t) fullShare ((dat1 m V c).after 1 t))

/-- The body at the point takes the proof data's state before it to the one after it. -/
theorem point1 (c : Dev nD) (t : Fin (cfgM m).N) :
    pre1P m V c t ⊢ wp frame (wpE (defs₀ (F := F)) Variants.none c none) Set.univ (bodyAt1 m t) (fun _ => post1P m V c t) := by
  unfold pre1P post1P bodyAt1
  simp only [dat1_before]
  rw [show (dat1 m V c).Φ t.succ = (dat1 m V c).Φ t.castSucc from rfl,
    show (dat1 m V c).owesAt () t.succ = (dat1 m V c).owesAt () t.castSucc from rfl, dat1_after0, dat1_after1,
    show (dat1 m V c).Φ t.castSucc = iprop(Pipeline.ΦA spec1 c ∗ Pipeline.prefHeld pre1 c (fun _ => fullShare) (tbl m)) from rfl, tables_eq]
  iintro ⟨⟨HΦ, HT⟩, Ho, ⟨%d0, H0⟩, ⟨%d1, H1⟩⟩
  iapply (select_body c ((cfgM m).grid.coords t) _ _ _ _ (blk1 m V c 0 t) (tbl m 0) Set.univ _)
  isplitl [H0]; · iexact H0
  isplitl [H1]; · iexists _; iexact H1
  isplitl [HT]; · iexact HT
  iintro ⟨H0, H1, HT⟩
  isplitl [HΦ HT]
  · isplitl [HΦ]; · iexact HΦ
    iexact HT
  isplitl [Ho]; · iexact Ho
  isplitl [H0]; · iexact H0
  iexact H1

theorem row1 (t : Fin (cfgM m).N) : defs₀ (F := F) .tc (cfgM m).body ((cfgM m).bodyArgs t ((cfgM m).slots t)) = bodyAt1 m t := by
  unfold defs₀; rw [Defs.onTc_tc]

theorem obligation1 (c : Dev nD) : BodyObligation (dat1 (F := F) m V c) (defs₀ (F := F)) Variants.none () Set.univ := fun t => by
  rw [bigSep_W1, bigSep_W1, row1 m]
  exact triple_restated (point1 m V c t) rfl .rfl fun _ => .rfl

end Call1

/-! ## What the buffers hold between the items -/

/-- At launch. -/
abbrev W0 : Dev nD → Valuation τ sig (Elt F) := fun c b => m (c, b)
abbrev B0 : (c : Dev nD) → (b : Ref sig .tc) → Buf (Elt F) ((c : Thread nD τ).loc b) := fun c b => W0 m c b
/-- After the first call. -/
def W1 (c : Dev nD) : Valuation τ sig (Elt F) := Pipeline.afterRegion (dat0 (B0 m) c) (W0 m c)
/-- After the reshape. -/
abbrev W2 : Dev nD → Valuation τ sig (Elt F) := fun c => StableHlo.after (hostOps1 (F := F)) (W1 m c)
abbrev B2 : (c : Dev nD) → (b : Ref sig .tc) → Buf (Elt F) ((c : Thread nD τ).loc b) := fun c b => W2 m c b
/-- After the second call. -/
def W3 (c : Dev nD) : Valuation τ sig (Elt F) := Pipeline.afterRegion (dat1 m (B2 m) c) (W2 m c)
/-- At the end. -/
abbrev W4 : Dev nD → Valuation τ sig (Elt F) := fun c => StableHlo.after (hostOps2 (F := F)) (W3 m c)

/-- A buffer that no window of the first call writes keeps its contents across it, -/
theorem W1_of (c : Dev nD) (r : Ref sig .tc) (h : ∀ w : Fin cfg0.W, Pipeline.arrRef spec0 w = r → (cfg0.win w).isOut = false) :
    W1 m c (Proc.devRef .tc r) = W0 m c (Proc.devRef .tc r) :=
  Pipeline.afterRegion_keeps (dat0 (B0 m) c) (W0 m c) (launch0 (F := F)).win.arr_inj (fun w => dat0_A (B0 m) c w) r h
theorem W2_of (c : Dev nD) (r : Ref sig .tc) (h : r ∉ hostOps1_W) : W2 m c (Proc.devRef .tc r) = W1 m c (Proc.devRef .tc r) :=
  StableHlo.after_of_writes_sub (hostOps1 (F := F)) (W1 m c) hostOps1_writes h
/-- and so across the second. -/
theorem W3_of (c : Dev nD) (r : Ref sig .tc) (h : ∀ w : Fin 2, Pipeline.arrRef spec1 w = r → (spec1 w).isOut = false) :
    W3 m c (Proc.devRef .tc r) = W2 m c (Proc.devRef .tc r) :=
  Pipeline.afterRegion_keeps (dat1 m (B2 m) c) (W2 m c) (launch1 (F := F)).win.arr_inj (fun w => dat1_A m (B2 m) c w) r h
theorem W4_of (c : Dev nD) (r : Ref sig .tc) (h : r ∉ hostOps2_W) : W4 m c (Proc.devRef .tc r) = W3 m c (Proc.devRef .tc r) :=
  StableHlo.after_of_writes_sub (hostOps2 (F := F)) (W3 m c) hostOps2_writes h

/-- The array the first call writes, after it. -/
theorem W1_v0 (c : Dev nD) : W1 m c (Proc.devRef .tc main_v0) = (dat0 (B0 m) c).arrAt 1 cfg0.N :=
  Pipeline.afterRegion_arr (dat0 (B0 m) c) (W0 m c) (launch0 (F := F)).win.arr_inj 1
/-- The array the second call writes, after it. -/
theorem W3_v2 (c : Dev nD) : W3 m c (Proc.devRef .tc main_v2) = (dat1 m (B2 m) c).arrAt 1 (cfgM m).N :=
  Pipeline.afterRegion_arr (dat1 m (B2 m) c) (W2 m c) (launch1 (F := F)).win.arr_inj 1

/-- The table is as launched when the second call is entered. -/
theorem W2_arg2 (c : Dev nD) : W2 m c (Proc.devRef .tc main_arg2) = m ((c : Thread nD τ).loc main_arg2) :=
  (W2_of m c main_arg2 (by decide)).trans (W1_of m c main_arg2 (by decide))

/-- The arguments end as launched. -/
theorem W4_arg0 (c : Dev nD) : W4 m c (Proc.devRef .tc main_arg0) = m ((c : Thread nD τ).loc main_arg0) :=
  (W4_of m c main_arg0 (by decide)).trans <| (W3_of m c main_arg0 (by decide)).trans <| (W2_of m c main_arg0 (by decide)).trans (W1_of m c main_arg0 (by decide))
theorem W4_arg1 (c : Dev nD) : W4 m c (Proc.devRef .tc main_arg1) = m ((c : Thread nD τ).loc main_arg1) :=
  (W4_of m c main_arg1 (by decide)).trans <| (W3_of m c main_arg1 (by decide)).trans <| (W2_of m c main_arg1 (by decide)).trans (W1_of m c main_arg1 (by decide))
theorem W4_arg2 (c : Dev nD) : W4 m c (Proc.devRef .tc main_arg2) = m ((c : Thread nD τ).loc main_arg2) :=
  (W4_of m c main_arg2 (by decide)).trans <| (W3_of m c main_arg2 (by decide)).trans (W2_arg2 m c)

/-! ## The items as segments -/

/-- The admissible contents of every pipeline's tables. -/
abbrev adm : (p : Fin 2) → (pcfgs (F := F) p).Adm
  | ⟨0, _⟩ => cfg0.toPCfg_adm
  | ⟨1, _⟩ => adm1 m

/-- Every pipeline's proof data, at its region's entry. -/
def pdats : (p : Fin 2) → (c : Dev nD) → Dat τ (Elt F) Unit ℕ (UR sig nD τ) ℕ (Pipeline.pin (pcfgs (F := F)) (adm m) p) c
  | ⟨0, _⟩ => fun c => dat0 (B0 m) c
  | ⟨1, _⟩ => fun c => dat1 m (B2 m) c

abbrev 𝒱₀ : Variants := Variants.none
abbrev L : GSem nD τ sig → Finset Unit := fun g => if g.1.2 = .tc then {()} else ∅
abbrev lv : GSem nD τ sig → Unit → ℕ := fun _ _ => 0

/-- What rides beside the buffers: nothing owed, and the generator register at some state. -/
abbrev R (c : Dev nD) : sProp 𝕄 := iprop((∃ W, owes (c : Thread nD τ) (0 : CellTallies nD τ sig Unit) W) ∗ (∃ r, prngReg c r) ∗ emp)

/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No core owes another anything. -/
theorem cut (p : Fin 2) : Pipeline.LevelCut (pcfgs (F := F)) (adm m) () L lv p (fun _ => (0 : CellTallies nD τ sig Unit)) (fun _ => (0 : ℕ)) where
  hι _ _ _ := Finset.mem_singleton_self ()
  hιb _ _ _ := le_refl 0
  hD _ _ _ h := absurd h (lt_irrefl 0)

set_option backward.isDefEq.respectTransparency.types false in
/-- The first call over the thread state. -/
def reg0 : Pipeline.RegionSeg (pcfgs (F := F)) (adm m) (pdats m) () defs₀ 𝒱₀ L lv 0 :=
  Pipeline.RegionSeg.ofHeldIn (pcfgs (F := F)) (adm m) (pdats m) () defs₀ 𝒱₀ L lv 0 (fun _ => 0) (Pipeline.ucRefs τ sig)
    (fun c => iprop(∃ r, prngReg c r)) (fun c => iprop(∃ r, prngReg c r)) launch0 rfl
    (fun c => (obligation0 (B0 m) c).loose) (fun _ _ => rfl) (fun _ => rfl) (fun c => (pdats m 0 c).share_full fun _ => rfl)
    (fun c => .rfl) (fun c => .rfl) (fun _ => 0) (cut m 0) (fun _ => iprop(emp)) (W0 m) (fun c w => dat0_A (B0 m) c w)

set_option backward.isDefEq.respectTransparency.types false in
/-- The second call's invariant is the scoped buffers, the generator register and the table, at its entry -/
theorem enterInv (c : Dev nD) : (iprop(iprop(Pipeline.scopedRest (Pipeline.pin (pcfgs (F := F)) (adm m) 1).spec c ∗ ∃ r, prngReg c r) ∗ Pipeline.tablesAt (pcfgs (F := F)) (adm m) 1 c) : sProp 𝕄)
    ⊢ (pdats m 1 c).Φ 0 := by
  show _ ⊢ iprop(iprop(Pipeline.scopedRest spec1 c ∗ ∃ r, prngReg c r) ∗ Pipeline.prefHeld pre1 c (fun _ => fullShare) (tbl m))
  exact .rfl

set_option backward.isDefEq.respectTransparency.types false in
/-- and at its end. -/
theorem leaveInv (c : Dev nD) : (pdats m 1 c).Φ (Fin.last (Pipeline.pin (pcfgs (F := F)) (adm m) 1).N)
    ⊢ (iprop(iprop(Pipeline.scopedRest (Pipeline.pin (pcfgs (F := F)) (adm m) 1).spec c ∗ ∃ r, prngReg c r) ∗ Pipeline.tablesAt (pcfgs (F := F)) (adm m) 1 c) : sProp 𝕄) := by
  show iprop(iprop(Pipeline.scopedRest spec1 c ∗ ∃ r, prngReg c r) ∗ Pipeline.prefHeld pre1 c (fun _ => fullShare) (tbl m)) ⊢ _
  exact .rfl

/-- The table's buffer holds the table when the second call is entered. -/
theorem table_at (c : Dev nD) (k : Fin 1) : tbl m k = W2 m c (Proc.devRef .tc (pre1.ref k)) := by
  obtain rfl : c = 0 := Subsingleton.elim _ _
  obtain rfl : k = 0 := Subsingleton.elim _ _
  exact (W2_arg2 m 0).symm

set_option backward.isDefEq.respectTransparency.types false in
/-- The second call over the thread state. -/
def reg1 : Pipeline.RegionSeg (pcfgs (F := F)) (adm m) (pdats m) () defs₀ 𝒱₀ L lv 1 :=
  Pipeline.RegionSeg.ofHeldInT (pcfgs (F := F)) (adm m) (pdats m) () defs₀ 𝒱₀ L lv 1 (fun _ => 0) (Pipeline.ucRefs τ sig)
    (fun c => iprop(∃ r, prngReg c r)) (fun c => iprop(∃ r, prngReg c r)) launch1
    (fun c => (obligation1 m (B2 m) c).loose) (fun _ _ => rfl) (fun _ => rfl) (fun c => (pdats m 1 c).share_full fun _ => rfl)
    (fun c => enterInv m c) (fun c => leaveInv m c) (fun _ => 0) (cut m 1) (fun _ => iprop(emp)) (W2 m) (fun c w => dat1_A m (B2 m) c w)
    (fun c k => table_at m c k)

set_option backward.isDefEq.respectTransparency.types false in
theorem enter0 (c : Dev nD) : iprop(StableHlo.held (c : Thread nD τ) (Pipeline.ucRefs τ sig) (W0 m c) ∗ R c) ⊢ (reg0 m).pre c :=
  Pipeline.RegionSeg.ofHeldIn_pre (pcs := pcfgs (F := F)) (a := adm m) (pdats := pdats m) (p := 0) (D := fun _ => 0)
    (X := fun c => iprop(∃ r, prngReg c r)) (R := fun _ => iprop(emp)) (W := W0 m) (Pipeline.arrRefs_sub_ucRefs spec0 (by decide)) c

set_option backward.isDefEq.respectTransparency.types false in
theorem leave0 (c : Dev nD) : (reg0 m).post c ⊢ iprop(StableHlo.held (c : Thread nD τ) (Pipeline.ucRefs τ sig) (W1 m c) ∗ R c) :=
  Pipeline.RegionSeg.ofHeldIn_post (pcs := pcfgs (F := F)) (a := adm m) (pdats := pdats m) (p := 0)
    (Pipeline.arrRefs_sub_ucRefs spec0 (by decide)) c

set_option backward.isDefEq.respectTransparency.types false in
theorem enter1 (c : Dev nD) : iprop(StableHlo.held (c : Thread nD τ) (Pipeline.ucRefs τ sig) (W2 m c) ∗ R c) ⊢ (reg1 m).pre c :=
  Pipeline.RegionSeg.ofHeldInT_pre (pcs := pcfgs (F := F)) (a := adm m) (pdats := pdats m) (p := 1) (D := fun _ => 0)
    (X := fun c => iprop(∃ r, prngReg c r)) (R := fun _ => iprop(emp)) (W := W2 m) (Pipeline.arrRefs_sub_ucRefs spec1 (by decide)) (Pipeline.tblRefs_sub_ucRefs pre1 (by decide)) c

set_option backward.isDefEq.respectTransparency.types false in
theorem leave1 (c : Dev nD) : (reg1 m).post c ⊢ iprop(StableHlo.held (c : Thread nD τ) (Pipeline.ucRefs τ sig) (W3 m c) ∗ R c) :=
  Pipeline.RegionSeg.ofHeldInT_post (pcs := pcfgs (F := F)) (a := adm m) (pdats := pdats m) (p := 1)
    (Pipeline.arrRefs_sub_ucRefs spec1 (by decide)) (Pipeline.tblRefs_sub_ucRefs pre1 (by decide)) c

/-- The program as its segments. -/
abbrev segs : List (Pipeline.Seg (pcfgs (F := F)) (adm m) (pdats m) () defs₀ 𝒱₀ L lv) :=
  [.region (reg0 m), .host (hseg hostOps1 hostOps1_sub hostOps1_fresh (W1 m)), .region (reg1 m), .host (hseg hostOps2 hostOps2_sub hostOps2_fresh (W3 m))]

theorem main_run (c : Dev nD) : main (F := F) c = Pipeline.Seg.run (segs m) := (main_chain c).trans (by chain_rfl)

/-- What a core ends with. -/
abbrev Tₙ (c : Dev nD) : sProp 𝕄 := StableHlo.held (c : Thread nD τ) (Pipeline.ucRefs τ sig) (W4 m c)

theorem mem_uc (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

set_option backward.isDefEq.respectTransparency.types false in
/-- Every execution ends, nothing faulting, with every semaphore at zero and every buffer at `W4`. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W4 m c b) ∧ r.2.sem = fun _ => 0) :=
  Pipeline.θ_run_regions_kit_sems (pcfgs (F := F)) (adm m) (pdats m) () (cellOf_inj (adm m)) emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun g h => if_neg h) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun c => enter0 m c, fun c => leave0 m c, fun c => enter1 m c, fun c => leave1 m c, fun c => by
      dsimp only [Pipeline.Seg.post, hseg, Pipeline.HostSeg.ofOps]
      iintro ⟨Hh, HO, -⟩
      isplitl [Hh]; · iexact Hh
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => ∀ b ∈ Pipeline.ucRefs τ sig, s.mem (((c : Thread nD τ)).1, b) = W4 m c b)
    (hfin := fun c s' => by
      iintro ⟨Hh, HSI⟩
      unfold Tₙ StableHlo.held
      imodintro
      iapply (pointsTo_read_all (Pipeline.ucRefs τ sig) (fun b => (((c : Thread nD τ)).1, b)) (W4 m c) s')
      isplitl [Hh] <;> iassumption)
    (hQ := fun s h hz => ⟨fun c => h c, funext fun g => hz g (.inr (regions_no_unscoped g.2))⟩)

/-- The arguments end as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c _ (mem_uc main_arg0 (by decide))).trans (W4_arg0 m c),
    (h.1 c _ (mem_uc main_arg1 (by decide))).trans (W4_arg1 m c), (h.1 c _ (mem_uc main_arg2 (by decide))).trans (W4_arg2 m c)⟩, h.2⟩) (run m ρ)

end Cert.KernelIdeal.Body

end
-- ==== Proof.Value.Fold.lean ====
/- Folds of maxima and minima over a finite family: each is a member of the family, and bounds all of it. -/
module

public import Idealize.ShloMosaic.Lib.Pointwise
public import Idealize.ShloMosaic.Lib.WordArith

@[expose] public section

set_option maxRecDepth 16384

noncomputable section

namespace Cert.Value

open Idealize.ShloMosaic

/-- A fold of maxima from the bottom is the greatest member of a nonempty family. -/
theorem fold_max {ι : Type*} [Fintype ι] [Nonempty ι] (f : ι → EReal) :
    (∀ i, f i ≤ Finset.univ.fold max ⊥ f) ∧ ∃ i, f i = Finset.univ.fold max ⊥ f := by
  have e : Finset.univ.fold max ⊥ f = Finset.univ.sup f := rfl
  rw [e]
  refine ⟨fun i => Finset.le_sup (Finset.mem_univ i), ?_⟩
  obtain ⟨i, _, h⟩ := Finset.exists_mem_eq_sup Finset.univ Finset.univ_nonempty f
  exact ⟨i, h.symm⟩

/-- A fold of minima from the top is the least member of a nonempty family. -/
theorem fold_min {ι : Type*} [Fintype ι] [Nonempty ι] (f : ι → EReal) :
    (∀ i, Finset.univ.fold min ⊤ f ≤ f i) ∧ ∃ i, f i = Finset.univ.fold min ⊤ f := by
  have e : Finset.univ.fold min ⊤ f = Finset.univ.inf f := rfl
  rw [e]
  refine ⟨fun i => Finset.inf_le (Finset.mem_univ i), ?_⟩
  obtain ⟨i, _, h⟩ := Finset.exists_mem_eq_inf Finset.univ Finset.univ_nonempty f
  exact ⟨i, h.symm⟩

/-- A fold of signed minima over words below half the range: its value bounds the family's, and it is a member or the start. -/
theorem fold_minsi_finset {ι : Type*} [DecidableEq ι] (f : ι → BitVec 32) (init : BitVec 32) (hi : init.toNat < 2 ^ 31)
    (S : Finset ι) (hf : ∀ i ∈ S, (f i).toNat < 2 ^ 31) :
    (S.fold IntOp.minsi init f).toNat ≤ init.toNat ∧ (∀ i ∈ S, (S.fold IntOp.minsi init f).toNat ≤ (f i).toNat)
      ∧ (S.fold IntOp.minsi init f = init ∨ ∃ i ∈ S, S.fold IntOp.minsi init f = f i) := by
  induction S using Finset.induction_on with
  | empty => simp
  | insert a S ha ih =>
    obtain ⟨h1, h2, h3⟩ := ih (fun i hi => hf i (Finset.mem_insert_of_mem hi))
    have hfa := hf a (Finset.mem_insert_self _ _)
    rw [Finset.fold_insert ha]
    have e := WordArith.toNat_minsi_of_lt (f a) (S.fold IntOp.minsi init f) hfa (by omega)
    refine ⟨by omega, fun i hi => ?_, ?_⟩
    · rcases Finset.mem_insert.1 hi with rfl | hi
      · omega
      · have := h2 i hi; omega
    · rcases le_total (f a).toNat (S.fold IntOp.minsi init f).toNat with h | h
      · exact .inr ⟨a, Finset.mem_insert_self _ _, BitVec.eq_of_toNat_eq (by omega)⟩
      · have e' : IntOp.minsi (f a) (S.fold IntOp.minsi init f) = S.fold IntOp.minsi init f := BitVec.eq_of_toNat_eq (by omega)
        rw [e']
        rcases h3 with h3 | ⟨i, hi, h3⟩
        · exact .inl h3
        · exact .inr ⟨i, Finset.mem_insert_of_mem hi, h3⟩

/-- A fold of signed minima over a family masked with a large word: when some mark is set, the fold is the least marked
    member, which stands at a marked place. -/
theorem fold_minsi {ι : Type*} [Fintype ι] (c : ι → Prop) [DecidablePred c] (v : ι → BitVec 32) (big init : BitVec 32)
    (hbig : big.toNat < 2 ^ 31) (hinit : init.toNat < 2 ^ 31) (hle : big.toNat ≤ init.toNat)
    (hv : ∀ i, c i → (v i).toNat < big.toNat) (hc : ∃ i, c i) :
    (∃ i, c i ∧ Finset.univ.fold IntOp.minsi init (fun i => if c i then v i else big) = v i)
      ∧ ∀ i, c i → (Finset.univ.fold IntOp.minsi init (fun i => if c i then v i else big)).toNat ≤ (v i).toNat := by
  classical
  obtain ⟨h1, h2, h3⟩ := fold_minsi_finset (fun i => if c i then v i else big) init hinit Finset.univ (fun i _ => by
    show (if c i then v i else big).toNat < 2 ^ 31
    split
    · rename_i h; have := hv i h; omega
    · exact hbig)
  have key : ∀ i, c i → (Finset.univ.fold IntOp.minsi init (fun i => if c i then v i else big)).toNat ≤ (v i).toNat := by
    intro i hi
    have := h2 i (Finset.mem_univ i)
    simpa only [hi, if_true] using this
  refine ⟨?_, key⟩
  obtain ⟨i0, hi0⟩ := hc
  have k0 := key i0 hi0
  have v0 := hv i0 hi0
  rcases h3 with h3 | ⟨i, _, h3⟩
  · rw [h3] at k0; omega
  · by_cases hi : c i
    · exact ⟨i, hi, by rw [h3]; simp only [hi, if_true]⟩
    · simp only [hi, if_false] at h3
      rw [h3] at k0; omega

/-! ## The constants -/

theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]

/-- The threshold. -/
def θ : EReal := Ideal.ofBits .f32 0x3F266666#32
/-- The sentinel. -/
def low : EReal := Ideal.ofBits .f32 0xF149F2CA#32

theorem bot_lt_θ : ⊥ < θ := by
  unfold θ; simp [Ideal.ofBits, Ideal.ieee, -EReal.coe_mul]

theorem low_lt_θ : low < θ := by
  unfold θ low; simp [Ideal.ofBits, Ideal.ieee, -EReal.coe_mul]; rw [← EReal.coe_neg, EReal.coe_lt_coe_iff]; norm_num

theorem low_real : ∃ r : ℝ, low = (r : EReal) := by
  unfold low; simp [Ideal.ofBits, Ideal.ieee, -EReal.coe_mul]; exact ⟨_, (EReal.coe_neg _).symm⟩

theorem ofBits_512 : Ideal.ofBits .f32 0x44000000#32 = ((512 : ℝ) : EReal) := by
  simp [Ideal.ofBits, Ideal.ieee, -EReal.coe_mul]; try norm_num

theorem ofBits_inv512 : Ideal.ofBits .f32 0x3B000000#32 = ((1 / 512 : ℝ) : EReal) := by
  simp [Ideal.ofBits, Ideal.ieee, -EReal.coe_mul]; try norm_num

end Cert.Value

end
-- ==== Proof.Value.Greedy.lean ====
/- The rounds of the selection: choosing the greatest key forty times, overwriting the chosen one by the sentinel each
   time, reads the keys in the order of a sort. -/
module

public import proofs.«01_k».proof.Proof.Model.Select
public import proofs.«01_k».proof.Proof.Value.Fold

@[expose] public section

set_option maxRecDepth 16384

noncomputable section

namespace Cert.Value

open Idealize.ShloMosaic Cert.Model

/-- `π` lists the places by falling key, the lower place first among equal keys. -/
structure Ranked (key : Fin 256 → EReal) (π : Fin 256 → Fin 256) : Prop where
  surj : Function.Surjective π
  inj : Function.Injective π
  before : ∀ i j, i < j → key (π j) < key (π i) ∨ (key (π j) = key (π i) ∧ π i < π j)

/-- A choice by the equality of two words. -/
theorem select_eq {α : Type} {w : ℕ} (a b : BitVec w) (x y : α) :
    Scalar.select (IntOp.cmpi .eq a b) x y = if a = b then x else y := by
  unfold Scalar.select IntOp.cmpi
  by_cases h : a = b
  · simp [h]
  · have : (a == b) = false := by simpa using h
    simp [h, this]

theorem ofNat_eq_iff (q c : Fin 256) : BitVec.ofNat 32 q.val = BitVec.ofNat 32 c.val ↔ q = c := by
  constructor
  · intro h
    have := congrArg BitVec.toNat h
    simp only [BitVec.toNat_ofNat] at this
    exact Fin.ext (by omega)
  · rintro rfl; rfl

/-- One round of one row: the chosen place holds the greatest key and is the lowest such; the next keys have the sentinel
    there; the position read is the one there. -/
theorem round_spec (s : FVec Ideal Tab .f32) (t : Fin 64) : ∃ c : Fin 256,
    s (ix2 t c) = best s (ix2 t 0) ∧ (∀ q, s (ix2 t q) ≤ best s (ix2 t 0)) ∧ (∀ q, s (ix2 t q) = best s (ix2 t 0) → c ≤ q)
      ∧ (∀ q, nextKeys s (ix2 t q) = if q = c then low else s (ix2 t q))
      ∧ ∀ p : FVec Ideal Tab .f32, p (ix2 t c) ≤ Ideal.ofBits .f32 0x4D800000#32 → bestPlace p s (ix2 t 0) = p (ix2 t c) := by
  classical
  have eb : best s (ix2 t 0) = Finset.univ.fold max ⊥ (fun q : Fin 256 => s (ix2 t q)) := by
    unfold best; pointwise; simp only [ofBits_bot]
  obtain ⟨h1, h2⟩ := fold_max (fun q : Fin 256 => s (ix2 t q))
  rw [← eb] at h1 h2
  have ec : bestCell s (ix2 t 0) = Finset.univ.fold IntOp.minsi 2147483647#32 (fun q : Fin 256 =>
      if s (ix2 t q) = best s (ix2 t 0) then BitVec.ofNat 32 q.val else 4096#32) := by
    unfold bestCell cellNo; pointwise
  have hw : ∀ q : Fin 256, (BitVec.ofNat 32 q.val).toNat = q.val := fun q => by
    simp only [BitVec.toNat_ofNat]; omega
  obtain ⟨⟨c, hc, e⟩, hl⟩ := fold_minsi (fun q : Fin 256 => s (ix2 t q) = best s (ix2 t 0)) (fun q => BitVec.ofNat 32 q.val)
    4096#32 2147483647#32 (by decide) (by decide) (by decide) (fun q _ => by rw [hw]; simp; omega) h2
  rw [← ec] at e
  rw [← ec] at hl
  have hit_eq : ∀ {α : Type} (q : Fin 256) (x y : α),
      Scalar.select (IntOp.cmpi CmpIPredicate.eq (BitVec.ofNat 32 q.val) (bestCell s (ix2 t 0))) x y = if q = c then x else y := by
    intro α q x y
    rw [e, select_eq]
    simp only [ofNat_eq_iff]
  refine ⟨c, hc, h1, fun q hq => ?_, fun q => ?_, fun p hp => ?_⟩
  · have := hl q hq
    rw [e, hw, hw] at this
    exact this
  · unfold nextKeys hit cellNo
    pointwise
    exact hit_eq q _ _
  · have ep : bestPlace p s (ix2 t 0) = Finset.univ.fold min ⊤ (fun q : Fin 256 =>
        if q = c then p (ix2 t q) else Ideal.ofBits .f32 0x4D800000#32) := by
      unfold bestPlace hit cellNo
      pointwise
      simp only [ofBits_top, hit_eq]
    rw [ep]
    obtain ⟨g1, q, g2⟩ := fold_min (fun q : Fin 256 => if q = c then p (ix2 t q) else Ideal.ofBits .f32 0x4D800000#32)
    refine le_antisymm ?_ ?_
    · have := g1 c; simpa using this
    · rw [← g2]; split
      · rename_i h; rw [h]
      · exact hp

/-- The keys before a round: the ones read by the rounds so far are the sentinel, the others as they were. -/
theorem keysAt_spec (T : FVec Ideal Tab .f32) (t : Fin 64) (π : Fin 256 → Fin 256) (hπ : Ranked (fun q => T (ix2 t q)) π)
    (hT : ∀ q, T (ix2 t q) = low ∨ θ < T (ix2 t q)) (k : ℕ) :
    ∀ q, keysAt T k (ix2 t q) = if ∃ i : Fin 256, i.val < k ∧ π i = q then low else T (ix2 t q) := by
  classical
  have hlow : ∀ q, low ≤ T (ix2 t q) := fun q => (hT q).elim (fun h => h.ge) (fun h => (low_lt_θ.trans h).le)
  induction k with
  | zero => intro q; simp [keysAt]
  | succ k ih =>
    intro q
    show nextKeys (keysAt T k) (ix2 t q) = _
    obtain ⟨c, hc, hmax, hfirst, hnext, _⟩ := round_spec (keysAt T k) t
    rw [hnext]
    obtain ⟨j, rfl⟩ := hπ.surj q
    obtain ⟨d, rfl⟩ := hπ.surj c
    have ihj : ∀ i, keysAt T k (ix2 t (π i)) = if i.val < k then low else T (ix2 t (π i)) := by
      intro i
      rw [ih]
      by_cases h : i.val < k
      · rw [if_pos ⟨i, h, rfl⟩, if_pos h]
      · rw [if_neg (fun ⟨i', h', e⟩ => h (hπ.inj e ▸ h')), if_neg h]
    have tgt : (if ∃ i : Fin 256, i.val < k + 1 ∧ π i = π j then low else T (ix2 t (π j)))
        = if j.val < k + 1 then low else T (ix2 t (π j)) := by
      by_cases h : j.val < k + 1
      · rw [if_pos ⟨j, h, rfl⟩, if_pos h]
      · rw [if_neg (fun ⟨i', h', e⟩ => h (hπ.inj e ▸ h')), if_neg h]
    rw [tgt, ihj]
    -- every key from round `k` on is at most the one `π k` holds
    have hle : ∀ i j : Fin 256, i.val ≤ j.val → T (ix2 t (π j)) ≤ T (ix2 t (π i)) := by
      intro i j h
      rcases Nat.lt_or_ge i.val j.val with h' | h'
      · exact (hπ.before i j h').elim le_of_lt (fun h => h.1.le)
      · rw [Fin.ext (Nat.le_antisymm h h')]
    by_cases hjk : j.val < k
    · rw [if_pos hjk, if_pos (by omega : j.val < k + 1), ite_self]
    · rw [if_neg hjk]
      by_cases hv : T (ix2 t (π j)) = low
      · simp only [hv, ite_self]
      · have hjv : θ < T (ix2 t (π j)) := (hT _).resolve_left hv
        -- the round's place is that of number `k`
        have hk : k < 256 := by omega
        have hkv : θ < T (ix2 t (π ⟨k, hk⟩)) := hjv.trans_le (hle ⟨k, hk⟩ j (by show k ≤ j.val; omega))
        have hdk : d.val = k := by
          have e1 := hmax (π ⟨k, hk⟩)
          rw [ihj, if_neg (by simp)] at e1
          rw [← hc] at e1
          have hd : ¬ d.val < k := fun h => by
            rw [ihj, if_pos h] at e1
            exact absurd (hkv.trans_le e1) (not_lt.2 low_lt_θ.le)
          rw [ihj, if_neg hd] at e1
          by_contra hne
          have hkd : (⟨k, hk⟩ : Fin 256) < d := by show k < d.val; omega
          rcases hπ.before ⟨k, hk⟩ d hkd with h | ⟨h, h'⟩
          · exact absurd e1 (not_le.2 h)
          · have := hfirst (π ⟨k, hk⟩) (by rw [← hc, ihj, ihj, if_neg hd, if_neg (by simp)]; exact h.symm)
            exact absurd h' (not_lt.2 this)
        by_cases h : j.val = k
        · rw [if_pos (by rw [Fin.ext (h.trans hdk.symm)]), if_pos (by omega : j.val < k + 1)]
        · rw [if_neg (fun e => h (by rw [hπ.inj e]; exact hdk)), if_neg (by omega : ¬ j.val < k + 1)]

/-- Round `k` reads the key of number `k`, and the position that goes with it, when that key is over the threshold; else
    it reads the sentinel. -/
theorem best_spec (T : FVec Ideal Tab .f32) (t : Fin 64) (π : Fin 256 → Fin 256) (hπ : Ranked (fun q => T (ix2 t q)) π)
    (hT : ∀ q, T (ix2 t q) = low ∨ θ < T (ix2 t q)) (k : Fin 256) :
    (θ < T (ix2 t (π k)) → best (keysAt T k) (ix2 t 0) = T (ix2 t (π k))
      ∧ ∀ p : FVec Ideal Tab .f32, p (ix2 t (π k)) ≤ Ideal.ofBits .f32 0x4D800000#32 →
          bestPlace p (keysAt T k) (ix2 t 0) = p (ix2 t (π k)))
      ∧ (¬ θ < T (ix2 t (π k)) → best (keysAt T k) (ix2 t 0) = low) := by
  classical
  have hlow : ∀ q, low ≤ T (ix2 t q) := fun q => (hT q).elim (fun h => h.ge) (fun h => (low_lt_θ.trans h).le)
  obtain ⟨c, hc, hmax, hfirst, _, hplace⟩ := round_spec (keysAt T k) t
  have ih := keysAt_spec T t π hπ hT k
  have ihj : ∀ i, keysAt T k (ix2 t (π i)) = if i < k then low else T (ix2 t (π i)) := by
    intro i
    rw [ih]
    by_cases h : i < k
    · rw [if_pos ⟨i, h, rfl⟩, if_pos h]
    · rw [if_neg (fun ⟨i', h', e⟩ => h (hπ.inj e ▸ h')), if_neg h]
  have hle : ∀ j : Fin 256, k ≤ j → T (ix2 t (π j)) ≤ T (ix2 t (π k)) := by
    intro j h
    rcases h.lt_or_eq with h' | h'
    · exact (hπ.before k j h').elim le_of_lt (fun h => h.1.le)
    · rw [h']
  obtain ⟨d, rfl⟩ := hπ.surj c
  have e1 := hmax (π k)
  rw [ihj, if_neg (lt_irrefl k)] at e1
  constructor
  · intro hkv
    have hd : ¬ d < k := fun h => by
      rw [← hc, ihj, if_pos h] at e1
      exact absurd (hkv.trans_le e1) (not_lt.2 low_lt_θ.le)
    have hdk : d = k := by
      by_contra hne
      have hkd : k < d := lt_of_le_of_ne (not_lt.1 hd) (Ne.symm hne)
      rw [← hc, ihj, if_neg hd] at e1
      rcases hπ.before k d hkd with h | ⟨h, h'⟩
      · exact absurd e1 (not_le.2 h)
      · have := hfirst (π k) (by rw [← hc, ihj, ihj, if_neg hd, if_neg (lt_irrefl k)]; exact h.symm)
        exact absurd h' (not_lt.2 this)
    subst hdk
    exact ⟨by rw [← hc, ihj, if_neg (lt_irrefl d)], fun p hp => hplace p hp⟩
  · intro hkv
    have hk : T (ix2 t (π k)) = low := (hT _).resolve_right hkv
    rw [← hc, ihj]
    split
    · rfl
    · rename_i h
      exact le_antisymm ((hle d (not_lt.1 h)).trans hk.le) (hlow _)

end Cert.Value

end
-- ==== Proof.Value.Cells.lean ====
/- What the reduction of one map holds: each cell's greatest masked value and the lowest flat position at which it
   stands, and the map's least value and the lowest flat position of it. -/
module

public import proofs.«01_k».proof.Proof.Model.Reduce
public import proofs.«01_k».proof.Proof.Value.Fold

@[expose] public section

set_option maxRecDepth 16384

noncomputable section

namespace Cert.Value

open Idealize.ShloMosaic Cert.Model

/-- Row (or lane) `a` of strip (or window) `g`. -/
def at32 (g : Fin 16) (a : Fin 32) : Fin 512 := ⟨32 * g.val + a.val, by omega⟩

theorem at32_surj (r : Fin 512) : ∃ g a, at32 g a = r :=
  ⟨⟨r.val / 32, by omega⟩, ⟨r.val % 32, by omega⟩, Fin.ext (by show 32 * (r.val / 32) + r.val % 32 = r.val; omega)⟩

/-- `v` is the greatest value of cell `(g, j)` of the map `m`, and `n` the lowest flat position in the cell at which it stands. -/
structure CellSpec (m : Fin 512 → Fin 512 → EReal) (g j : Fin 16) (v : EReal) (n : ℕ) : Prop where
  le : ∀ a b, m (at32 g a) (at32 j b) ≤ v
  mem : ∃ a b, m (at32 g a) (at32 j b) = v ∧ n = (at32 g a).val * 512 + (at32 j b).val
  least : ∀ a b, m (at32 g a) (at32 j b) = v → n ≤ (at32 g a).val * 512 + (at32 j b).val

/-- `v` is the least value of the map `m`, and `n` the lowest flat position at which it stands. -/
structure LeastSpec (m : Fin 512 → Fin 512 → EReal) (v : EReal) (n : ℕ) : Prop where
  le : ∀ r l, v ≤ m r l
  mem : ∃ r l, m r l = v ∧ n = r.val * 512 + l.val
  least : ∀ r l, m r l = v → n ≤ r.val * 512 + l.val

theorem CellSpec.unique {m : Fin 512 → Fin 512 → EReal} {g j : Fin 16} {v v' : EReal} {n n' : ℕ}
    (h : CellSpec m g j v n) (h' : CellSpec m g j v' n') : v = v' ∧ n = n' := by
  obtain ⟨a, b, e, en⟩ := h.mem
  obtain ⟨a', b', e', en'⟩ := h'.mem
  have ev : v = v' := le_antisymm (e ▸ h'.le a b) (e' ▸ h.le a' b')
  subst ev
  have := h.least a' b' e'
  have := h'.least a b e
  exact ⟨rfl, by omega⟩

theorem LeastSpec.unique {m : Fin 512 → Fin 512 → EReal} {v v' : EReal} {n n' : ℕ}
    (h : LeastSpec m v n) (h' : LeastSpec m v' n') : v = v' ∧ n = n' := by
  obtain ⟨a, b, e, en⟩ := h.mem
  obtain ⟨a', b', e', en'⟩ := h'.mem
  have ev : v = v' := le_antisymm (e' ▸ h.le a' b') (e ▸ h'.le a b)
  subst ev
  have := h.least a' b' e'
  have := h'.least a b e
  exact ⟨rfl, by omega⟩

/-! ## One strip, one window -/

theorem stripMax_spec (m : FVec Ideal Map .f32) (i : Fin 16) (l : Fin 512) :
    (∀ a, m (ix2 (at32 i a) l) ≤ stripMax m i (ix2 0 l)) ∧ ∃ a, m (ix2 (at32 i a) l) = stripMax m i (ix2 0 l) := by
  unfold stripMax strip
  pointwise
  simp only [ofBits_bot]
  exact fold_max (fun a : Fin 32 => m (ix2 (at32 i a) l))

theorem stripMin_spec (m : FVec Ideal Map .f32) (i : Fin 16) (l : Fin 512) :
    (∀ a, stripMin m i (ix2 0 l) ≤ m (ix2 (at32 i a) l)) ∧ ∃ a, m (ix2 (at32 i a) l) = stripMin m i (ix2 0 l) := by
  unfold stripMin strip
  pointwise
  simp only [ofBits_top]
  exact fold_min (fun a : Fin 32 => m (ix2 (at32 i a) l))

theorem stripArg_spec (m : FVec Ideal Map .f32) (v : Fin 16 → FVec Ideal Row .f32) (i : Fin 16) (l : Fin 512)
    (h : ∃ a, m (ix2 (at32 i a) l) = v i (ix2 0 l)) :
    (∃ a, m (ix2 (at32 i a) l) = v i (ix2 0 l) ∧ (stripArg m v i (ix2 0 l)).toNat = (at32 i a).val)
      ∧ ∀ a, m (ix2 (at32 i a) l) = v i (ix2 0 l) → (stripArg m v i (ix2 0 l)).toNat ≤ (at32 i a).val := by
  classical
  have hw : ∀ a : Fin 32, (IntOp.addi (BitVec.ofNat 32 a.val) (BitVec.ofNat 32 (32 * i.val))).toNat = (at32 i a).val := by
    intro a; show (BitVec.ofNat 32 a.val + BitVec.ofNat 32 (32 * i.val)).toNat = 32 * i.val + a.val
    simp only [BitVec.toNat_add, BitVec.toNat_ofNat]; omega
  obtain ⟨⟨a, ha, e⟩, hl⟩ := fold_minsi (fun a : Fin 32 => m (ix2 (at32 i a) l) = v i (ix2 0 l))
    (fun a => IntOp.addi (BitVec.ofNat 32 a.val) (BitVec.ofNat 32 (32 * i.val))) 268435456#32 2147483647#32
    (by decide) (by decide) (by decide) (fun a _ => by rw [hw]; have := (at32 i a).isLt; simp; omega) h
  have e0 : stripArg m v i (ix2 0 l) = Finset.univ.fold IntOp.minsi 2147483647#32 (fun a : Fin 32 =>
      if m (ix2 (at32 i a) l) = v i (ix2 0 l) then IntOp.addi (BitVec.ofNat 32 a.val) (BitVec.ofNat 32 (32 * i.val))
      else 268435456#32) := by
    unfold stripArg strip stripRows
    pointwise
    rfl
  rw [e0]
  refine ⟨⟨a, ha, ?_⟩, fun a ha => ?_⟩
  · rw [e, hw]
  · have := hl a ha; rw [hw] at this; exact this

theorem stack_apply {α : Type} (f : Fin 16 → Row.Idx → α) (g : Fin 16) (l : Fin 512) : stack f (ix2 g l) = f g (ix2 0 l) := by
  unfold stack
  refine concatenate_ofFn_unit_apply (t := Rows) 0 f _ rfl rfl (ix2 g l) g rfl (ix2 0 l) fun b hb => ?_
  match b with | ⟨0, _⟩ => exact absurd rfl hb | ⟨1, _⟩ => rfl

theorem side_apply {α : Type} (f : Fin 16 → Col.Idx → α) (g j : Fin 16) : side f (ix2 g j) = f j (ix2 g 0) := by
  unfold side
  refine concatenate_ofFn_unit_apply (t := Cells) 1 f _ rfl rfl (ix2 g j) j rfl (ix2 g 0) fun b hb => ?_
  match b with | ⟨0, _⟩ => rfl | ⟨1, _⟩ => exact absurd rfl hb

theorem endToEnd_apply {α : Type} (f : Fin 16 → CellRow.Idx → α) (g j : Fin 16) (q : Fin 256) (hq : q.val = 16 * g.val + j.val) :
    endToEnd f (ix2 0 q) = f g (ix2 0 j) := by
  unfold endToEnd
  refine concatenate_ofFn_apply (t := CellFlat) 1 f _ rfl 16 rfl (ix2 0 q) g ?_ (ix2 0 j) ?_ ?_
  · show q.val / 16 = g.val; omega
  · show j.val = q.val % 16; omega
  · intro b hb; match b with | ⟨0, _⟩ => rfl | ⟨1, _⟩ => exact absurd rfl hb

theorem winMax_spec (s : FVec Ideal Rows .f32) (j g : Fin 16) :
    (∀ b, s (ix2 g (at32 j b)) ≤ winMax s j (ix2 g 0)) ∧ ∃ b, s (ix2 g (at32 j b)) = winMax s j (ix2 g 0) := by
  unfold winMax win
  pointwise
  simp only [ofBits_bot]
  exact fold_max (fun b : Fin 32 => s (ix2 g (at32 j b)))

theorem winArg_spec (s : FVec Ideal Rows .f32) (r : IVec Rows 32) (j g : Fin 16) (hr : ∀ l, (r (ix2 g l)).toNat < 512) :
    (∃ b, s (ix2 g (at32 j b)) = winMax s j (ix2 g 0)
        ∧ (winArg s r j (ix2 g 0)).toNat = (r (ix2 g (at32 j b))).toNat * 512 + (at32 j b).val)
      ∧ ∀ b, s (ix2 g (at32 j b)) = winMax s j (ix2 g 0)
        → (winArg s r j (ix2 g 0)).toNat ≤ (r (ix2 g (at32 j b))).toNat * 512 + (at32 j b).val := by
  classical
  let w : Fin 32 → BitVec 32 := fun b => IntOp.addi (IntOp.muli (r (ix2 g (at32 j b))) 512#32)
    (IntOp.addi (BitVec.ofNat 32 b.val) (BitVec.ofNat 32 (32 * j.val)))
  have hw : ∀ b : Fin 32, (w b).toNat = (r (ix2 g (at32 j b))).toNat * 512 + (at32 j b).val := by
    intro b
    have := hr (at32 j b)
    show (r (ix2 g (at32 j b)) * 512#32 + (BitVec.ofNat 32 b.val + BitVec.ofNat 32 (32 * j.val))).toNat = _ + (32 * j.val + b.val)
    simp only [BitVec.toNat_add, BitVec.toNat_mul, BitVec.toNat_ofNat]; omega
  obtain ⟨⟨b, hb, e⟩, hl⟩ := fold_minsi (fun b : Fin 32 => s (ix2 g (at32 j b)) = winMax s j (ix2 g 0))
    w 268435456#32 2147483647#32 (by decide) (by decide) (by decide)
    (fun b _ => by rw [hw]; have := (at32 j b).isLt; have := hr (at32 j b); simp; omega)
    (winMax_spec s j g).2
  have e0 : winArg s r j (ix2 g 0) = Finset.univ.fold IntOp.minsi 2147483647#32 (fun b : Fin 32 =>
      if s (ix2 g (at32 j b)) = winMax s j (ix2 g 0) then w b else 268435456#32) := by
    unfold winArg winFlat win
    pointwise
    rfl
  rw [e0]
  refine ⟨⟨b, hb, ?_⟩, fun a ha => ?_⟩
  · rw [e, hw]
  · have := hl a ha; rw [hw] at this; exact this

/-! ## The whole map -/

theorem leastOf_spec (s : FVec Ideal Rows .f32) :
    (∀ g l, leastOf s ≤ s (ix2 g l)) ∧ ∃ g l, s (ix2 g l) = leastOf s := by
  have e : leastOf s = Finset.univ.fold min ⊤ (fun x : Fin 16 × Fin 512 => s (ix2 x.1 x.2)) := by
    unfold leastOf
    pointwise
    simp only [ofBits_top]
  rw [e]
  obtain ⟨h1, ⟨g, l⟩, h2⟩ := fold_min (fun x : Fin 16 × Fin 512 => s (ix2 x.1 x.2))
  exact ⟨fun g l => h1 (g, l), g, l, h2⟩

theorem leastAt_spec (s : FVec Ideal Rows .f32) (r : IVec Rows 32) (v : EReal) (hr : ∀ g l, (r (ix2 g l)).toNat < 512)
    (h : ∃ g l, s (ix2 g l) = v) :
    (∃ g l, s (ix2 g l) = v ∧ (leastAt s r v).toNat = (r (ix2 g l)).toNat * 512 + l.val)
      ∧ ∀ g l, s (ix2 g l) = v → (leastAt s r v).toNat ≤ (r (ix2 g l)).toNat * 512 + l.val := by
  classical
  let w : Fin 16 × Fin 512 → BitVec 32 := fun x => IntOp.addi (IntOp.muli (r (ix2 x.1 x.2)) 512#32) (BitVec.ofNat 32 x.2.val)
  have hw : ∀ x, (w x).toNat = (r (ix2 x.1 x.2)).toNat * 512 + x.2.val := by
    intro x
    have := hr x.1 x.2
    show (r (ix2 x.1 x.2) * 512#32 + BitVec.ofNat 32 x.2.val).toNat = _
    simp only [BitVec.toNat_add, BitVec.toNat_mul, BitVec.toNat_ofNat]; omega
  obtain ⟨g, l, h⟩ := h
  obtain ⟨⟨x, hx, e⟩, hl⟩ := fold_minsi (fun x : Fin 16 × Fin 512 => s (ix2 x.1 x.2) = v)
    w 268435456#32 2147483647#32 (by decide) (by decide) (by decide)
    (fun x _ => by rw [hw]; have := x.2.isLt; have := hr x.1 x.2; simp; omega) ⟨(g, l), h⟩
  have e0 : leastAt s r v = Finset.univ.fold IntOp.minsi 2147483647#32 (fun x : Fin 16 × Fin 512 =>
      if s (ix2 x.1 x.2) = v then w x else 268435456#32) := by
    unfold leastAt
    pointwise
    rfl
  rw [e0]
  refine ⟨⟨x.1, x.2, hx, ?_⟩, fun g l ha => ?_⟩
  · rw [e, hw]
  · have := hl (g, l) ha; rw [hw] at this; exact this

/-- The cell table holds each cell's greatest value and its lowest position. -/
theorem cell_spec (m : FVec Ideal Map .f32) (g j : Fin 16) :
    CellSpec (fun r l => m (ix2 r l)) g j (winMax (stack (stripMax m)) j (ix2 g 0))
      (winArg (stack (stripMax m)) (stack (stripArg m (stripMax m))) j (ix2 g 0)).toNat := by
  have hs := fun l => stripMax_spec m g l
  have ha := fun l => stripArg_spec m (stripMax m) g l (hs l).2
  obtain ⟨hw1, hw2⟩ := winMax_spec (stack (stripMax m)) j g
  obtain ⟨⟨b, hb, hn⟩, hl⟩ := winArg_spec (stack (stripMax m)) (stack (stripArg m (stripMax m))) j g (fun l => by
    rw [stack_apply]; obtain ⟨a, _, e⟩ := (ha l).1; rw [e]; exact (at32 g a).isLt)
  simp only [stack_apply] at hw1 hw2 hb hn hl
  refine ⟨fun a b => ((hs _).1 a).trans (hw1 b), ?_, fun a b e => ?_⟩
  · obtain ⟨a, e1, e2⟩ := (ha (at32 j b)).1
    exact ⟨a, b, e1.trans hb, by rw [hn, e2]⟩
  · have e3 : stripMax m g (ix2 0 (at32 j b)) = winMax (stack (stripMax m)) j (ix2 g 0) :=
      le_antisymm (hw1 b) (e ▸ (hs _).1 a)
    have := hl b e3
    have := (ha (at32 j b)).2 a (e.trans e3.symm)
    omega

/-- The last two of the packed values are the map's least value and its lowest position. -/
theorem least_spec (m : FVec Ideal Map .f32) :
    LeastSpec (fun r l => m (ix2 r l)) (mapMin m) (mapArg m).toNat := by
  have hs := fun g l => stripMin_spec m g l
  have ha := fun g l => stripArg_spec m (stripMin m) g l (hs g l).2
  obtain ⟨hw1, hw2⟩ := leastOf_spec (stack (stripMin m))
  obtain ⟨⟨g, l, hb, hn⟩, hl⟩ := leastAt_spec (stack (stripMin m)) (stack (stripArg m (stripMin m))) (mapMin m) (fun g l => by
    rw [stack_apply]; obtain ⟨a, _, e⟩ := (ha g l).1; rw [e]; exact (at32 g a).isLt) hw2
  simp only [stack_apply] at hw1 hw2 hb hn hl
  have hw1' : ∀ g l, mapMin m ≤ stripMin m g (ix2 0 l) := hw1
  refine ⟨fun r l => ?_, ?_, fun r l e => ?_⟩
  · obtain ⟨g, a, rfl⟩ := at32_surj r
    exact (hw1' g l).trans ((hs g l).1 a)
  · obtain ⟨a, e1, e2⟩ := (ha g l).1
    exact ⟨at32 g a, l, e1.trans hb, by show (leastAt _ _ _).toNat = _; rw [hn, e2]⟩
  · obtain ⟨g, a, rfl⟩ := at32_surj r
    have e3 : stripMin m g (ix2 0 l) = mapMin m := le_antisymm (e ▸ (hs g l).1 a) (hw1' g l)
    have := hl g l e3
    have := (ha g l).2 a (e.trans e3.symm)
    show (leastAt _ _ _).toNat ≤ _
    omega

end Cert.Value

end
-- ==== Proof.Value.Packed.lean ====
/- The packed values of one map, as functions of the map. -/
module

public import proofs.«01_k».proof.Proof.Value.Cells

@[expose] public section

set_option maxRecDepth 16384

noncomputable section

namespace Cert.Value

open Idealize.ShloMosaic Cert.Model

/-- The map with every value that is not over the threshold replaced by the bottom. -/
def msk (m : Fin 512 → Fin 512 → EReal) : Fin 512 → Fin 512 → EReal := fun r l => if θ < m r l then m r l else ⊥

/-- A cell of a map always has a greatest masked value and a lowest position of it. -/
theorem exists_cell (m : Fin 512 → Fin 512 → EReal) (g j : Fin 16) : ∃ vn : EReal × ℕ, CellSpec m g j vn.1 vn.2 :=
  ⟨(_, _), cell_spec (fun i => m (i 0) (i 1)) g j⟩

/-- A map always has a least value and a lowest position of it. -/
theorem exists_least (m : Fin 512 → Fin 512 → EReal) : ∃ vn : EReal × ℕ, LeastSpec m vn.1 vn.2 :=
  ⟨(_, _), least_spec (fun i => m (i 0) (i 1))⟩

/-- The strip of cell number `q`. -/
def cg (q : Fin 256) : Fin 16 := ⟨q.val / 16, by omega⟩
/-- The window of cell number `q`. -/
def cj (q : Fin 256) : Fin 16 := ⟨q.val % 16, by omega⟩

/-- The greatest masked value of cell number `q`. -/
def cellV (m : Fin 512 → Fin 512 → EReal) (q : Fin 256) : EReal := (exists_cell (msk m) (cg q) (cj q)).choose.1
/-- The lowest position of it. -/
def cellN (m : Fin 512 → Fin 512 → EReal) (q : Fin 256) : ℕ := (exists_cell (msk m) (cg q) (cj q)).choose.2
/-- The map's least value. -/
def mapV (m : Fin 512 → Fin 512 → EReal) : EReal := (exists_least m).choose.1
/-- The lowest position of it. -/
def mapN (m : Fin 512 → Fin 512 → EReal) : ℕ := (exists_least m).choose.2

theorem cellS (m : Fin 512 → Fin 512 → EReal) (q : Fin 256) : CellSpec (msk m) (cg q) (cj q) (cellV m q) (cellN m q) :=
  (exists_cell (msk m) (cg q) (cj q)).choose_spec
theorem mapS (m : Fin 512 → Fin 512 → EReal) : LeastSpec m (mapV m) (mapN m) := (exists_least m).choose_spec

theorem cellN_lt (m : Fin 512 → Fin 512 → EReal) (q : Fin 256) : cellN m q < 262144 := by
  obtain ⟨a, b, _, e⟩ := (cellS m q).mem
  have := (at32 (cg q) a).isLt; have := (at32 (cj q) b).isLt; omega
theorem mapN_lt (m : Fin 512 → Fin 512 → EReal) : mapN m < 262144 := by
  obtain ⟨a, b, _, e⟩ := (mapS m).mem
  have := a.isLt; have := b.isLt; omega

/-- The map as a function of its row and lane. -/
def fn (x : FVec Ideal Map .f32) : Fin 512 → Fin 512 → EReal := fun r l => x (ix2 r l)

theorem masked_fn (x : FVec Ideal Map .f32) : fn (masked x) = msk (fn x) := by
  funext r l
  unfold fn masked msk
  pointwise
  rw [ofBits_bot]; rfl

/-- A word below half the range, as a signed number read as a real. -/
theorem sitofp_toNat (w : BitVec 32) (h : w.toNat < 2 ^ 31) : (FloatOps.sitofp .f32 w : Ideal .f32) = (((w.toNat : ℕ) : ℝ) : EReal) := by
  show (((w.toInt : ℤ) : ℝ) : EReal) = _
  rw [BitVec.toInt_eq_toNat_of_lt (by omega)]
  simp

theorem sitofp_at {s : Shape} (v : IVec s 32) (i : s.Idx) : (sitofp .f32 v : FVec Ideal s .f32) i = FloatOps.sitofp .f32 (v i) := rfl

theorem cellRow_apply {α : Type} (g j : Fin 16) (x : Cells.Idx → α) : cellRow g x (ix2 0 j) = x (ix2 g j) := by
  unfold cellRow
  exact extractStridedSlice_apply _ _ _ _ (ix2 g j) (fun a => by match a with | ⟨0, _⟩ => rfl | ⟨1, _⟩ => exact (Nat.zero_add _).symm)

theorem packed_scores (x : FVec Ideal Map .f32) (q : Fin 256) (k : Fin 640) (hk : k.val = q.val) :
    packed x (ix2 0 k) = cellV (fn x) q := by
  have h1 : packed x (ix2 0 k) = (endToEnd fun g => cellRow g (cellMax x)) (ix2 0 q) := by
    unfold packed
    refine concatenate_apply_piece (t := Packed2) 1 _ _ (ix2 0 k) 0 (by simp) CellFlat _ rfl rfl 0 rfl (ix2 0 q) ?_ ?_
    · intro b hb; match b with | ⟨0, _⟩ => rfl | ⟨1, _⟩ => exact absurd rfl hb
    · show 0 + q.val = k.val; omega
  rw [h1, endToEnd_apply _ (cg q) (cj q) q (by show q.val = 16 * (q.val / 16) + q.val % 16; omega)]
  rw [cellRow_apply]
  unfold cellMax
  rw [side_apply]
  have h3 := cell_spec (masked x) (cg q) (cj q)
  have h4 : (fun r l => masked x (ix2 r l)) = msk (fn x) := masked_fn x
  rw [h4] at h3
  exact (h3.unique (cellS (fn x) q)).1

theorem packed_places (x : FVec Ideal Map .f32) (q : Fin 256) (k : Fin 640) (hk : k.val = 256 + q.val) :
    packed x (ix2 0 k) = ((cellN (fn x) q : ℝ) : EReal) := by
  have h1 : packed x (ix2 0 k) = (endToEnd fun g => (sitofp .f32 (cellRow g (cellArg x)) : FVec Ideal CellRow .f32)) (ix2 0 q) := by
    unfold packed
    refine concatenate_apply_piece (t := Packed2) 1 _ _ (ix2 0 k) 1 (by simp) CellFlat _ rfl rfl 256 rfl (ix2 0 q) ?_ ?_
    · intro b hb; match b with | ⟨0, _⟩ => rfl | ⟨1, _⟩ => exact absurd rfl hb
    · show 256 + q.val = k.val; omega
  rw [h1, endToEnd_apply _ (cg q) (cj q) q (by show q.val = 16 * (q.val / 16) + q.val % 16; omega)]
  rw [sitofp_at, cellRow_apply]
  unfold cellArg
  rw [side_apply]
  have h3 := cell_spec (masked x) (cg q) (cj q)
  have h4 : (fun r l => masked x (ix2 r l)) = msk (fn x) := masked_fn x
  rw [h4] at h3
  have h5 := (h3.unique (cellS (fn x) q)).2
  rw [sitofp_toNat _ (by rw [h5]; have := cellN_lt (fn x) q; omega), h5]

theorem packed_tail (x : FVec Ideal Map .f32) (l : Fin 128) (k : Fin 640) (hk : k.val = 512 + l.val) :
    packed x (ix2 0 k) = tail (Scalar.sitofp .f32 (mapArg x)) (mapMin x) (ix2 0 l) := by
  unfold packed
  refine concatenate_apply_piece (t := Packed2) 1 _ _ (ix2 0 k) 2 (by simp) Tail _ rfl rfl 512 rfl (ix2 0 l) ?_ ?_
  · intro b hb; match b with | ⟨0, _⟩ => rfl | ⟨1, _⟩ => exact absurd rfl hb
  · show 512 + l.val = k.val; omega

theorem packed_minPlace (x : FVec Ideal Map .f32) : packed x (ix2 0 512) = ((mapN (fn x) : ℝ) : EReal) := by
  rw [packed_tail x 0 512 rfl]
  have h5 := ((least_spec x).unique (mapS (fn x))).2
  have h6 : (tail (Scalar.sitofp .f32 (mapArg x)) (mapMin x) : FVec Ideal Tail .f32) (ix2 0 0) = FloatOps.sitofp .f32 (mapArg x) := by
    unfold tail
    pointwise
    try rfl
  rw [h6, sitofp_toNat _ (by rw [h5]; have := mapN_lt (fn x); omega), h5]

theorem packed_minValue (x : FVec Ideal Map .f32) : packed x (ix2 0 513) = mapV (fn x) := by
  rw [packed_tail x 1 513 rfl]
  have h6 : (tail (Scalar.sitofp .f32 (mapArg x)) (mapMin x) : FVec Ideal Tail .f32) (ix2 0 1) = mapMin x := by
    unfold tail
    pointwise
    try rfl
  rw [h6]
  exact ((least_spec x).unique (mapS (fn x))).1

end Cert.Value

end
-- ==== Proof.Value.Point.lean ====
/- The points of one map: what both programs are shown to return for it, from its cells' greatest values and their
   positions, and its least value and the position of that. -/
module

public import proofs.«01_k».proof.Proof.Value.Greedy
public import proofs.«01_k».proof.Proof.Value.Packed

@[expose] public section

set_option maxRecDepth 16384

noncomputable section

namespace Cert.Value

open Idealize.ShloMosaic

/-- A natural number as a value. -/
def ofN (n : ℕ) : EReal := ((n : ℝ) : EReal)

/-- The scale of an axis: the image's size over 512. -/
def scl (z : BitVec 32) : EReal := ((z.toInt : ℝ) : EReal) * ((1 / 512 : ℝ) : EReal)

/-- The key a cell is sorted by: its greatest value when that is over the threshold, else the sentinel. -/
def keyOf (S : Fin 256 → EReal) (q : Fin 256) : EReal := if θ < S q then S q else low

/-- How many foreground points a map gets: its cells over the threshold, forty at most. -/
def cnt (S : Fin 256 → EReal) : BitVec 32 :=
  IntOp.minsi (Finset.univ.fold IntOp.addi 0#32 (fun q : Fin 256 => BitVec.setWidth 32 (BitVec.ofBool (decide (θ < S q))))) 40#32

/-- Component `ch` of point `k`: the background point behind the foreground ones, the foreground point of the cell of
    rank `k`, or zeros. -/
def point (S : Fin 256 → EReal) (N : Fin 256 → ℕ) (mv : EReal) (mn : ℕ) (sx sy : EReal) (π : Fin 256 → Fin 256) (C k : ℕ)
    (ch : Fin 4) : EReal :=
  if k = C then ![ofN (mn % 512) * sx, ofN (mn / 512) * sy, mv, 0] ch
  else if h : k < 40 then
    if θ < S (π ⟨k, by omega⟩) then
      ![ofN (N (π ⟨k, by omega⟩) % 512) * sx, ofN (N (π ⟨k, by omega⟩) / 512) * sy, S (π ⟨k, by omega⟩), 1] ch
    else 0
  else 0

theorem keyOf_lt (S : Fin 256 → EReal) (q : Fin 256) : θ < keyOf S q ↔ θ < S q := by
  unfold keyOf
  split
  · rfl
  · rename_i h; exact ⟨fun h' => absurd h' (not_lt.2 low_lt_θ.le), fun h' => absurd h' h⟩

theorem keyOf_of_lt (S : Fin 256 → EReal) (q : Fin 256) (h : θ < S q) : keyOf S q = S q := if_pos h

theorem keyOf_cases (S : Fin 256 → EReal) (q : Fin 256) : keyOf S q = low ∨ θ < keyOf S q := by
  unfold keyOf
  split
  · rename_i h; exact .inr h
  · exact .inl rfl

/-- The number of foreground points is at most forty. -/
theorem cnt_le (S : Fin 256 → EReal) : (cnt S).toNat ≤ 40 := by
  classical
  have h : ∀ A : Finset (Fin 256), (A.fold IntOp.addi 0#32 (fun q : Fin 256 => BitVec.setWidth 32 (BitVec.ofBool (decide (θ < S q))))).toNat ≤ A.card := by
    intro A
    induction A using Finset.induction_on with
    | empty => simp
    | insert a A ha ih =>
      rw [Finset.fold_insert ha, Finset.card_insert_of_notMem ha]
      have h1 : (BitVec.setWidth 32 (BitVec.ofBool (decide (θ < S a)))).toNat ≤ 1 := by
        cases decide (θ < S a) <;> decide
      show (_ + _ : BitVec 32).toNat ≤ _
      rw [BitVec.toNat_add]
      exact (Nat.mod_le _ _).trans (by omega)
  have := h Finset.univ
  rw [Finset.card_univ, Fintype.card_fin] at this
  unfold cnt
  rw [WordArith.toNat_minsi_of_lt _ _ (by omega) (by decide)]
  exact Nat.min_le_right _ _

/-- The number `n / 512`, rounded down, of a number read as a value. -/
theorem floor_ofN (n : ℕ) : Ideal.liftRound Int.floor (ofN n * ((1 / 512 : ℝ) : EReal)) = ofN (n / 512) := by
  unfold ofN
  rw [← EReal.coe_mul]
  show (((Int.floor ((n : ℝ) * (1 / 512)) : ℤ) : ℝ) : EReal) = _
  have : Int.floor ((n : ℝ) * (1 / 512)) = ((n / 512 : ℕ) : ℤ) := by
    have e := Nat.div_add_mod n 512
    have h : (n : ℝ) = 512 * ((n / 512 : ℕ) : ℝ) + ((n % 512 : ℕ) : ℝ) := by exact_mod_cast e.symm
    have h1 : ((n % 512 : ℕ) : ℝ) < 512 := by exact_mod_cast Nat.mod_lt n (by decide)
    have h2 : (0 : ℝ) ≤ ((n % 512 : ℕ) : ℝ) := Nat.cast_nonneg _
    rw [Int.floor_eq_iff, Int.cast_natCast]
    constructor <;> linarith
  rw [this, Int.cast_natCast]

/-- The rest of a number by 512. -/
theorem rest_ofN (n : ℕ) : ofN n - ofN (n / 512) * ((512 : ℝ) : EReal) = ofN (n % 512) := by
  unfold ofN
  rw [← EReal.coe_mul, ← EReal.coe_sub]
  congr 1
  have := Nat.div_add_mod n 512
  have h : (n : ℝ) = 512 * ((n / 512 : ℕ) : ℝ) + ((n % 512 : ℕ) : ℝ) := by exact_mod_cast this.symm
  rw [sub_eq_iff_eq_add, add_comm]
  linarith

end Cert.Value

end
-- ==== Proof.Value.Planes.lean ====
/- What the selection holds for one map, at each slot. -/
module

public import proofs.«01_k».proof.Proof.Value.Point

@[expose] public section

set_option maxRecDepth 16384

noncomputable section

namespace Cert.Value

open Idealize.ShloMosaic Cert.Model

theorem plane_apply (f : ℕ → FVec Ideal C64 .f32) (t : Fin 64) (k : Fin 48) :
    plane f (ix2 t k) = if k.val < 40 then f k.val (ix2 t 0) else 0 := by
  unfold plane
  refine (concatenate_ofFn_unit_apply (t := Plane) (s₁ := C64) 1
    (fun k : Fin 48 => if k.val < 40 then f k.val else broadcast C64 (Scalar.ofBits .f32 0x00000000#32)) _ rfl rfl (ix2 t k) k
    rfl (ix2 t 0) (fun b hb => by match b with | ⟨0, _⟩ => rfl | ⟨1, _⟩ => exact absurd rfl hb)).trans ?_
  split
  · rfl
  · pointwise

theorem image_apply (t : Fin 64) : image (ix2 t 0) = BitVec.ofNat 32 (t.val / 16) := by
  unfold image
  pointwise
  revert t
  decide

theorem scale_apply (z : Fin 4 → BitVec 32) (t : Fin 64) (i : Fin 4) (hi : t.val / 16 = i.val) :
    (scale z : FVec Ideal C64 .f32) (ix2 t 0) = scl (z i) := by
  unfold scale perImage
  pointwise
  rw [image_apply, hi, ofBits_inv512]
  unfold scl
  congr 1
  simp only [select_eq]
  fin_cases i <;> simp

theorem over_apply (b : FVec Ideal C64 .f32) (t : Fin 64) : over b (ix2 t 0) = if θ < b (ix2 t 0) then 1 else 0 := by
  unfold over
  pointwise
  change FloatOps.sitofp FTy.f32 (BitVec.setWidth 32 (BitVec.ofBool (decide (θ < b (ix2 t 0))))) = _
  by_cases h : θ < b (ix2 t 0)
  · rw [if_pos h]
    simp only [h, decide_true]
    rw [sitofp_toNat _ (by decide)]
    simp
  · rw [if_neg h]
    simp only [h, decide_false]
    rw [sitofp_toNat _ (by decide)]
    simp

theorem rowOf_apply (p : FVec Ideal C64 .f32) (t : Fin 64) (n : ℕ) (h : p (ix2 t 0) = ofN n) : rowOf p (ix2 t 0) = ofN (n / 512) := by
  unfold rowOf
  pointwise
  rw [h, ofBits_inv512, floor_ofN]

theorem laneOf_apply (p : FVec Ideal C64 .f32) (t : Fin 64) (n : ℕ) (h : p (ix2 t 0) = ofN n) : laneOf p (ix2 t 0) = ofN (n % 512) := by
  have e : laneOf p (ix2 t 0) = p (ix2 t 0) - rowOf p (ix2 t 0) * Ideal.ofBits .f32 0x44000000#32 := by
    unfold laneOf
    pointwise
  rw [e, rowOf_apply p t n h, h, ofBits_512, rest_ofN]

/-- The packed row of map `t`: its cells' greatest values, their positions, the least value's position, the least value. -/
structure RowOf (X : FVec Ideal Pk .f32) (t : Fin 64) (S : Fin 256 → EReal) (N : Fin 256 → ℕ) (mv : EReal) (mn : ℕ) : Prop where
  scores : ∀ q, scores X (ix2 t q) = S q
  places : ∀ q, places X (ix2 t q) = ofN (N q)
  minPlace : minPlace X (ix2 t 0) = ofN mn
  minValue : minValue X (ix2 t 0) = mv
  small : ∀ q, N q < 262144

section
variable {X : FVec Ideal Pk .f32} {t : Fin 64} {S : Fin 256 → EReal} {N : Fin 256 → ℕ} {mv : EReal} {mn : ℕ}

theorem RowOf.keys (h : RowOf X t S N mv mn) (q : Fin 256) : firstKeys X (ix2 t q) = keyOf S q := by
  have e : firstKeys X (ix2 t q) = if θ < Model.scores X (ix2 t q) then Model.scores X (ix2 t q) else low := by
    unfold firstKeys valid
    pointwise
    rfl
  rw [e, h.scores]; rfl

theorem RowOf.count (h : RowOf X t S N mv mn) : Model.count X (ix2 t 0) = cnt S := by
  have e : Model.count X (ix2 t 0) = cnt (fun q => Model.scores X (ix2 t q)) := by
    unfold Model.count valid cnt θ
    pointwise
  rw [e, show (fun q => Model.scores X (ix2 t q)) = S from funext h.scores]

variable {π : Fin 256 → Fin 256}

theorem RowOf.best (h : RowOf X t S N mv mn) (hπ : Ranked (keyOf S) π) (k : Fin 256) :
    (θ < S (π k) → Model.best (keysAt (firstKeys X) k) (ix2 t 0) = S (π k)
      ∧ bestPlace (Model.places X) (keysAt (firstKeys X) k) (ix2 t 0) = ofN (N (π k)))
      ∧ (¬ θ < S (π k) → Model.best (keysAt (firstKeys X) k) (ix2 t 0) = low) := by
  have hk : (fun q => firstKeys X (ix2 t q)) = keyOf S := funext h.keys
  obtain ⟨h1, h2⟩ := best_spec (firstKeys X) t π (by rw [hk]; exact hπ) (fun q => by rw [h.keys]; exact keyOf_cases S q) k
  rw [h.keys, keyOf_lt] at h1 h2
  refine ⟨fun hv => ?_, h2⟩
  obtain ⟨g1, g2⟩ := h1 hv
  rw [keyOf_of_lt S _ hv] at g1
  refine ⟨g1, ?_⟩
  rw [g2 (Model.places X), h.places]
  rw [h.places]
  have e : Ideal.ofBits .f32 0x4D800000#32 = ((268435456 : ℝ) : EReal) := by
    simp [Ideal.ofBits, Ideal.ieee, -EReal.coe_mul]; try norm_num
  rw [e]
  unfold ofN
  rw [EReal.coe_le_coe_iff]
  have := h.small (π k)
  have h3 : (N (π k) : ℝ) < 262144 := by exact_mod_cast this
  linarith

theorem RowOf.slot (h : RowOf X t S N mv mn) (k : Fin 48) {α : Type} (x y : α) :
    Scalar.select (IntOp.cmpi CmpIPredicate.eq (BitVec.ofNat 32 k.val) (Model.count X (ix2 t 0))) x y
      = if k.val = (cnt S).toNat then x else y := by
  rw [select_eq, h.count]
  have : BitVec.ofNat 32 k.val = cnt S ↔ k.val = (cnt S).toNat := by
    constructor
    · intro e; rw [← e, BitVec.toNat_ofNat]; omega
    · intro e; rw [e]; simp
  simp only [this]

/-- A plane's value at a slot of no foreground point is zero, whatever the plane holds there. -/
theorem RowOf.planeV (h : RowOf X t S N mv mn) (hπ : Ranked (keyOf S) π) (k : Fin 48) :
    Model.planeV X (ix2 t k) = if h : k.val < 40 then (if θ < S (π ⟨k.val, by omega⟩) then 1 else 0) else 0 := by
  unfold Model.planeV
  rw [plane_apply]
  by_cases hk : k.val < 40
  · rw [if_pos hk, dif_pos hk, over_apply]
    obtain ⟨h1, h2⟩ := h.best hπ ⟨k.val, by omega⟩
    by_cases hv : θ < S (π ⟨k.val, by omega⟩)
    · rw [(h1 hv).1]
    · rw [h2 hv, if_neg hv, if_neg (not_lt.2 low_lt_θ.le)]
  · rw [if_neg hk, dif_neg hk]

/-- A plane at a slot that is not the background's: the value read where there is a foreground point, else zero. -/
theorem RowOf.fg (h : RowOf X t S N mv mn) (hπ : Ranked (keyOf S) π) (f : ℕ → FVec Ideal C64 .f32) (c : EReal)
    (v : Fin 256 → EReal) (hf : ∀ k : Fin 256, θ < S (π k) → f k.val (ix2 t 0) * c = v (π k)) (k : Fin 48) :
    plane f (ix2 t k) * c * Model.planeV X (ix2 t k)
      = if h : k.val < 40 then (if θ < S (π ⟨k.val, by omega⟩) then v (π ⟨k.val, by omega⟩) else 0) else 0 := by
  rw [h.planeV hπ, plane_apply]
  by_cases hk : k.val < 40
  · rw [dif_pos hk, dif_pos hk, if_pos hk]
    by_cases hv : θ < S (π ⟨k.val, by omega⟩)
    · rw [if_pos hv, if_pos hv, mul_one]; exact hf _ hv
    · rw [if_neg hv, if_neg hv, mul_zero]
  · rw [dif_neg hk, dif_neg hk, mul_zero]

theorem RowOf.outX (h : RowOf X t S N mv mn) (hπ : Ranked (keyOf S) π) (zw zh : Fin 4 → BitVec 32) (k : Fin 48) (i : Fin 4)
    (hi : t.val / 16 = i.val) :
    (Model.outX zw X : FVec Ideal Plane .f32) (ix2 t k) = point S N mv mn (scl (zw i)) (scl (zh i)) π (cnt S).toNat k.val 0 := by
  have e : (Model.outX zw X : FVec Ideal Plane .f32) (ix2 t k)
      = Scalar.select (IntOp.cmpi CmpIPredicate.eq (BitVec.ofNat 32 k.val) (Model.count X (ix2 t 0)))
          (laneOf (Model.minPlace X) (ix2 t 0) * scale zw (ix2 t 0))
          (plane (fun k => laneOf (bestPlace (Model.places X) (keysAt (firstKeys X) k))) (ix2 t k) * scale zw (ix2 t 0)
            * Model.planeV X (ix2 t k)) := by
    unfold Model.outX Model.slot wide
    pointwise
  rw [e, h.slot, laneOf_apply _ _ _ h.minPlace, scale_apply zw t i hi,
    h.fg hπ _ _ (fun q => ofN (N q % 512) * scl (zw i)) (fun k hv => by rw [laneOf_apply _ _ _ ((h.best hπ k).1 hv).2])]
  rfl

theorem RowOf.outY (h : RowOf X t S N mv mn) (hπ : Ranked (keyOf S) π) (zw zh : Fin 4 → BitVec 32) (k : Fin 48) (i : Fin 4)
    (hi : t.val / 16 = i.val) :
    (Model.outY zh X : FVec Ideal Plane .f32) (ix2 t k) = point S N mv mn (scl (zw i)) (scl (zh i)) π (cnt S).toNat k.val 1 := by
  have e : (Model.outY zh X : FVec Ideal Plane .f32) (ix2 t k)
      = Scalar.select (IntOp.cmpi CmpIPredicate.eq (BitVec.ofNat 32 k.val) (Model.count X (ix2 t 0)))
          (rowOf (Model.minPlace X) (ix2 t 0) * scale zh (ix2 t 0))
          (plane (fun k => rowOf (bestPlace (Model.places X) (keysAt (firstKeys X) k))) (ix2 t k) * scale zh (ix2 t 0)
            * Model.planeV X (ix2 t k)) := by
    unfold Model.outY Model.slot wide
    pointwise
  rw [e, h.slot, rowOf_apply _ _ _ h.minPlace, scale_apply zh t i hi,
    h.fg hπ _ _ (fun q => ofN (N q / 512) * scl (zh i)) (fun k hv => by rw [rowOf_apply _ _ _ ((h.best hπ k).1 hv).2])]
  rfl

theorem RowOf.outS (h : RowOf X t S N mv mn) (hπ : Ranked (keyOf S) π) (sx sy : EReal) (k : Fin 48) :
    (Model.outS X : FVec Ideal Plane .f32) (ix2 t k) = point S N mv mn sx sy π (cnt S).toNat k.val 2 := by
  have e : (Model.outS X : FVec Ideal Plane .f32) (ix2 t k)
      = Scalar.select (IntOp.cmpi CmpIPredicate.eq (BitVec.ofNat 32 k.val) (Model.count X (ix2 t 0)))
          (Model.minValue X (ix2 t 0))
          (plane (fun k => Model.best (keysAt (firstKeys X) k)) (ix2 t k) * Model.planeV X (ix2 t k)) := by
    unfold Model.outS Model.slot wide
    pointwise
  rw [e, h.slot, h.minValue, ← mul_one (plane _ _),
    h.fg hπ _ 1 S (fun k hv => by rw [((h.best hπ k).1 hv).1, mul_one])]
  rfl

theorem RowOf.outV (h : RowOf X t S N mv mn) (hπ : Ranked (keyOf S) π) (sx sy : EReal) (k : Fin 48) :
    (Model.outV X : FVec Ideal Plane .f32) (ix2 t k) = point S N mv mn sx sy π (cnt S).toNat k.val 3 := by
  have e : (Model.outV X : FVec Ideal Plane .f32) (ix2 t k)
      = Scalar.select (IntOp.cmpi CmpIPredicate.eq (BitVec.ofNat 32 k.val) (Model.count X (ix2 t 0)))
          0 (Model.planeV X (ix2 t k)) := by
    unfold Model.outV Model.slot wide
    pointwise
  rw [e, h.slot, h.planeV hπ]
  rfl

theorem RowOf.outN (h : RowOf X t S N mv mn) (k : Fin 48) :
    (Model.outN X : FVec Ideal Plane .f32) (ix2 t k) = ofN ((cnt S).toNat + 1) := by
  have e : (Model.outN X : FVec Ideal Plane .f32) (ix2 t k) = FloatOps.sitofp FTy.f32 (Model.count X (ix2 t 0)) + 1 := by
    unfold Model.outN wide
    pointwise
  have hc := cnt_le S
  rw [e, h.count, sitofp_toNat _ (by omega)]
  unfold ofN
  push_cast
  rfl

end

end Cert.Value

end
-- ==== Proof.Value.Maps.lean ====
/- The maps of the scores, and what each point of each of them is. -/
module

public import proofs.«01_k».proof.Proof.Value.Planes

@[expose] public section

set_option maxRecDepth 16384

noncomputable section

namespace Cert.Value

open Idealize.ShloMosaic Cert.Model

abbrev Scores4 : Shape := ⟨4, ![4, 16, 512, 512]⟩

/-- Map `n` of the scores. -/
def mapAt (A : FVec Ideal Scores4 .f32) (n : Fin 64) : FVec Ideal Map .f32 :=
  fun i => A (ix4 ⟨n.val / 16, by omega⟩ ⟨n.val % 16, by omega⟩ (i 0) (i 1))

/-- The place of prompt `b` of image `a` among the maps. -/
def mapIx (a : Fin 4) (b : Fin 16) : Fin 64 := ⟨a.val * 16 + b.val, by omega⟩

/-- What the program's first result holds. -/
def pointAt (A : FVec Ideal Scores4 .f32) (Z : Fin 4 → Fin 2 → BitVec 32) (π : Fin 64 → Fin 256 → Fin 256) (a : Fin 4) (b : Fin 16)
    (k : Fin 42) (ch : Fin 4) : EReal :=
  point (cellV (fn (mapAt A (mapIx a b)))) (cellN (fn (mapAt A (mapIx a b)))) (mapV (fn (mapAt A (mapIx a b)))) (mapN (fn (mapAt A (mapIx a b))))
    (scl (Z a 1)) (scl (Z a 0)) (π (mapIx a b)) (cnt (cellV (fn (mapAt A (mapIx a b))))).toNat k.val ch

end Cert.Value

end
-- ==== Proof.Value.Arrays.lean ====
/- What the first call leaves: the packed row of each map. -/
module

public import proofs.«01_k».proof.Proof.KernelIdeal.Run
public import proofs.«01_k».proof.Proof.Value.Maps
public import Idealize.ShloMosaic.Lib.Pipeline.ValueKit.Geometry

@[expose] public section

set_option maxRecDepth 16384

noncomputable section

namespace Cert.Value

open Idealize.ShloMosaic Idealize.ShloMosaic.TcCoe Cert.Model Cert.KernelIdeal

/-- The packed rows of all the maps. -/
def rows0 (A : FVec Ideal Scores4 .f32) : S64x1x640.Idx → Ideal .f32 := fun i => packed (mapAt A (i 0)) (ix2 0 (i 2))

theorem reduce_apply (x : FVec Ideal Map4 .f32) (y : Packed3.Idx) :
    reduce x y = packed (fun i => x (ix4 0 0 (i 0) (i 1))) (ix2 0 (y 2)) := by
  unfold reduce
  have e : (shapeCast Map x (by decide) : FVec Ideal Map .f32) = fun i => x (ix4 0 0 (i 0) (i 1)) := by
    funext i
    pointwise
  rw [e]
  pointwise

theorem hz4 : (![0, 0, 0, 0] : Fin 4 → ℕ) = fun _ => 0 := by decide
theorem hz3 : (![0, 0, 0] : Fin 3 → ℕ) = fun _ => 0 := by decide
theorem hz2 : (![0, 0] : Fin 2 → ℕ) = fun _ => 0 := by decide

theorem index0 : ∀ t : Fin grid0.N, win0_0.index t 0 = t.val / 16 ∧ win0_0.index t 1 = t.val % 16 ∧ win0_0.index t 2 = 0 ∧ win0_0.index t 3 = 0 := by
  decide +kernel
theorem index1 : ∀ t : Fin grid0.N, win0_1.index t 0 = t.val ∧ win0_1.index t 1 = 0 ∧ win0_1.index t 2 = 0 := by
  decide +kernel

variable (m : (ℓ : Loc nD τ sig) → Buf (Elt Ideal) ℓ) (c : Dev nD)

theorem arr0 : (Body.dat0 (F := Ideal) (Body.B0 m) c).arrAt 1 cfg0.N = rows0 (m ((c : Thread nD τ).loc main_arg0)) := by
  refine (Body.dat0 (F := Ideal) (Body.B0 m) c).arrAt_eq_of_covers 1 _ (by decide +kernel) fun t hf y => ?_
  blk_simp
  rw [Body.dat0_after1]
  unfold Body.reduceOut
  rw [View.canon_unit_zero hz3, View.ld_unit_zero hz4, reduce_apply]
  obtain ⟨a0, a1, a2, a3⟩ := index0 t
  obtain ⟨b0, b1, b2⟩ := index1 t
  have y0 : (y 0).val < 1 := (y 0).isLt
  have e0 : ((win0_1.rect t).emb y 0).val = t.val := by
    rw [Pipeline.Window.rect_emb_val win0_1 t (hk := rfl), b0]
    show t.val * 1 + (y 0).val = t.val
    omega
  have e2 : ((win0_1.rect t).emb y 2).val = (y 2).val := by
    rw [Pipeline.Window.rect_emb_val win0_1 t (hk := rfl), b2]
    show 0 * 640 + (y 2).val = (y 2).val
    omega
  have hx : (fun i : Map.Idx => Body.blk0 (Body.B0 m) c 0 t (ix4 0 0 (i 0) (i 1))) = mapAt (m ((c : Thread nD τ).loc main_arg0)) ((win0_1.rect t).emb y 0) := by
    funext i
    show m ((c : Thread nD τ).loc main_arg0) ((win0_0.rect t).emb (ix4 0 0 (i 0) (i 1))) = _
    unfold mapAt
    congr 1
    funext a
    apply Fin.ext
    rw [Pipeline.Window.rect_emb_val win0_0 t (hk := rfl)]
    match a with
    | ⟨0, _⟩ => rw [show win0_0.index t ⟨0, _⟩ = _ from a0]; show t.val / 16 * 1 + 0 = ((win0_1.rect t).emb y 0).val / 16; omega
    | ⟨1, _⟩ => rw [show win0_0.index t ⟨1, _⟩ = _ from a1]; show t.val % 16 * 1 + 0 = ((win0_1.rect t).emb y 0).val % 16; omega
    | ⟨2, _⟩ => rw [show win0_0.index t ⟨2, _⟩ = _ from a2]; show 0 * 512 + (i 0).val = (i 0).val; omega
    | ⟨3, _⟩ => rw [show win0_0.index t ⟨3, _⟩ = _ from a3]; show 0 * 512 + (i 1).val = (i 1).val; omega
  have hy : (win0_1.rect t).emb y 2 = y 2 := Fin.ext e2
  show _ = packed (mapAt (m ((c : Thread nD τ).loc main_arg0)) ((win0_1.rect t).emb y 0)) (ix2 0 ((win0_1.rect t).emb y 2))
  rw [hx, hy]

theorem W2_v1 : Body.W2 m c (Proc.devRef .tc main_v1) = (fun i => packed (mapAt (m ((c : Thread nD τ).loc main_arg0)) (i 0)) (ix2 0 (i 1)) : S64x640.Idx → Ideal .f32) := by
  show StableHlo.after Gen.hostOps1 (Body.W1 m c) _ = _
  unfold Gen.hostOps1
  after_results_simp
  rw [Body.W1_v0, arr0]
  funext i
  unfold rows0
  obtain ⟨a, b, rfl⟩ : ∃ a b, i = ix2 a b := ⟨_, _, eq_ix2 i⟩
  refine (shapeCast_apply (s := S64x1x640) (t := S64x640) _ _ (ix2 a b) (ix3 a 0 b) ?_).trans rfl
  rw [Shape.rowMajor_val_two, Shape.rowMajor_val_three]
  simp [ix2, ix3]

theorem whole1 : ((Body.cfgM m).win 1).WholeAt Gen.t1_0 := by
  refine ⟨rfl, fun t _ => Gen.fin_N1 t, fun a => ?_⟩
  fin_cases a <;> exact ⟨rfl, rfl⟩

theorem arr1 (V : (c : Dev nD) → (b : Ref sig .tc) → Buf (Elt Ideal) ((c : Thread nD τ).loc b)) :
    (Body.dat1 m V c).arrAt 1 (Body.cfgM m).N = Body.selectOut c (Body.tbl m 0) (V c main_v1) := by
  refine (Body.dat1 m V c).arrAt_eq_of_after_last 1 Gen.t1_0 (whole1 m) _ fun j => ?_
  rw [Body.dat1_after1]
  have e : Body.blk1 m V c 0 Gen.t1_0 = V c main_v1 := by
    funext z
    show V c main_v1 ((((Body.cfgM m).win 0).rect Gen.t1_0).emb z) = V c main_v1 z
    congr 1
    funext a
    apply Fin.ext
    rw [Pipeline.Window.rect_emb_val_of_index_zero]
    fin_cases a <;> rfl
  rw [e]
  rfl

end Cert.Value

end
-- ==== Proof.Value.KernelValue.lean ====
/- What the two calls and the host operations after them leave: each point of each map, and the counts. -/
module

public import proofs.«01_k».proof.Proof.Value.Arrays

@[expose] public section

set_option maxRecDepth 16384

noncomputable section

namespace Cert.Value

open Idealize.ShloMosaic Idealize.ShloMosaic.TcCoe Cert.Model Cert.KernelIdeal Cert.KernelIdeal.Facts₀

variable (m : (ℓ : Loc nD τ sig) → Buf (Elt Ideal) ℓ) (c : Dev nD)

theorem sizeOf_eq (T) (t : Fin 4) (d : Fin 2) : Body.sizeOf (F := Ideal) c T t d = T (ix2 t d) := by
  unfold Body.sizeOf
  show T _ = T _
  congr 1
  funext a
  apply Fin.ext
  match a with
  | ⟨0, _⟩ => show t.val + 1 * 0 = t.val; omega
  | ⟨1, _⟩ => show d.val + 1 * 0 = d.val; omega

/-- The five planes the second call writes. -/
def planeOf (z : Fin 4 → Fin 2 → BitVec 32) (X : FVec Ideal Pk .f32) : Fin 5 → FVec Ideal Plane .f32
  | 0 => Model.outX (fun t => z t 1) X
  | 1 => Model.outY (fun t => z t 0) X
  | 2 => Model.outS X
  | 3 => Model.outV X
  | 4 => Model.outN X

theorem asPlane3_apply (p : FVec Ideal Plane .f32) (y : Plane3.Idx) : asPlane3 p y = p (ix2 (y 1) (y 2)) := by
  unfold asPlane3
  have h0 : (y 0).val < 1 := (y 0).isLt
  refine shapeCast_apply (s := Plane) (t := Plane3) _ _ y (ix2 (y 1) (y 2)) ?_
  rw [Shape.rowMajor_val_two, Shape.rowMajor_val_three]
  simp [ix2]

theorem piece_apply (z : Fin 4 → Fin 2 → BitVec 32) (X : FVec Ideal Pk .f32) (k : Fin 5) (o : ℕ) (ho : o = k.val)
    (inb : ∀ a, (![o, 0, 0] : Fin 3 → ℕ) a + S1x64x48.size a ≤ S5x64x48.size a) (y : Plane3.Idx)
    (P : FVec Ideal Plane .f32) (hP : planeOf z X k = P) :
    asPlane3 P y = (fun i : S5x64x48.Idx => planeOf z X (i 0) (ix2 (i 1) (i 2)))
      ((Rect.unit (s := S5x64x48) ![o, 0, 0] S1x64x48.size inb).emb y) := by
  rw [asPlane3_apply, ← hP]
  have h0 : (y 0).val < 1 := (y 0).isLt
  have e0 : (Rect.unit (s := S5x64x48) ![o, 0, 0] S1x64x48.size inb).emb y 0 = k :=
    Fin.ext (by show o + 1 * (y 0).val = k.val; omega)
  have e1 : (Rect.unit (s := S5x64x48) ![o, 0, 0] S1x64x48.size inb).emb y 1 = y 1 :=
    Fin.ext (by show 0 + 1 * (y 1).val = (y 1).val; omega)
  have e2 : (Rect.unit (s := S5x64x48) ![o, 0, 0] S1x64x48.size inb).emb y 2 = y 2 :=
    Fin.ext (by show 0 + 1 * (y 2).val = (y 2).val; omega)
  show _ = planeOf z X _ (ix2 _ _)
  rw [e0, e1, e2]

theorem piece_ok (z : Fin 4 → Fin 2 → BitVec 32) (X : FVec Ideal Pk .f32) (k : Fin 5) (o : ℕ) (ho : o = k.val)
    (inb : ∀ a, (![o, 0, 0] : Fin 3 → ℕ) a + S1x64x48.size a ≤ S5x64x48.size a)
    (P : FVec Ideal Plane .f32) (hP : planeOf z X k = P) (p : View.Piece (Elt Ideal) S5x64x48 .f32)
    (hp : p = ⟨Rect.unit (s := S5x64x48) ![o, 0, 0] S1x64x48.size inb, asPlane3 P⟩) (x : p.1.shape.Idx) :
    p.2 x = (fun i : S5x64x48.Idx => planeOf z X (i 0) (ix2 (i 1) (i 2))) (p.1.emb x) := by
  subst hp
  exact piece_apply z X k o ho inb x P hP

theorem selectOut_eq (T) (X : FVec Ideal Pk .f32) :
    Body.selectOut (F := Ideal) c T X = fun i : S5x64x48.Idx => planeOf (fun t d => T (ix2 t d)) X (i 0) (ix2 (i 1) (i 2)) := by
  funext y
  unfold Body.selectOut
  rw [View.ld_unit_zero hz2]
  have hz : Body.sizeOf (F := Ideal) c T = fun t d => T (ix2 t d) := by funext t d; exact sizeOf_eq c T t d
  rw [hz]
  refine View.canon_apply_of_pieces (fun i : S5x64x48.Idx => planeOf (fun t d => T (ix2 t d)) X (i 0) (ix2 (i 1) (i 2)))
    (Body.selectPieces (fun t d => T (ix2 t d)) X) ?_ y (Body.select_cover (F := Ideal) _ _ _ _ _ y)
  intro p hp
  simp only [Body.selectPieces, List.mem_cons, List.not_mem_nil, or_false] at hp
  rcases hp with hp | hp | hp | hp | hp
  · exact piece_ok (fun t d => T (ix2 t d)) X 4 4 rfl inb_S5x64x48_S1x64x48_4_0_0 (Model.outN X) rfl p hp
  · exact piece_ok (fun t d => T (ix2 t d)) X 3 3 rfl inb_S5x64x48_S1x64x48_3_0_0 (Model.outV X) rfl p hp
  · exact piece_ok (fun t d => T (ix2 t d)) X 2 2 rfl inb_S5x64x48_S1x64x48_2_0_0 (Model.outS X) rfl p hp
  · exact piece_ok (fun t d => T (ix2 t d)) X 1 1 rfl inb_S5x64x48_S1x64x48_1_0_0 (Model.outY (fun t => T (ix2 t 0)) X) rfl p hp
  · exact piece_ok (fun t d => T (ix2 t d)) X 0 0 rfl inb_S5x64x48_S1x64x48_0_0_0 (Model.outX (fun t => T (ix2 t 1)) X) rfl p hp

/-- The scores and the sizes the program is launched with. -/
abbrev argA : FVec Ideal Scores4 .f32 := m ((c : Thread nD τ).loc main_arg0)
abbrev argZ : Fin 4 → Fin 2 → BitVec 32 := fun t d => (m ((c : Thread nD τ).loc main_arg2) : S4x2.Idx → BitVec 32) (ix2 t d)

/-- The packed rows, one beneath the other. -/
def rowsOf (A : FVec Ideal Scores4 .f32) : FVec Ideal Pk .f32 := fun i => packed (mapAt A (i 0)) (ix2 0 (i 1))

theorem W3_planes : Body.W3 m c (Proc.devRef .tc main_v2)
    = fun i : S5x64x48.Idx => planeOf (argZ m c) (rowsOf (argA m c)) (i 0) (ix2 (i 1) (i 2)) := by
  obtain rfl : c = 0 := Subsingleton.elim _ _
  have h : Body.B2 m 0 main_v1 = rowsOf (argA m 0) := W2_v1 m 0
  refine ((Body.W3_v2 m 0).trans (arr1 m 0 _)).trans ((selectOut_eq 0 (Body.tbl m 0) (Body.B2 m 0 main_v1)).trans ?_)
  rw [h]
  rfl

theorem W4_v6 (a : Fin 4) (b : Fin 16) (k : Fin 42) (ch : Fin 4) :
    (Body.W4 m c (Proc.devRef .tc main_v6) : S4x16x42x4.Idx → Ideal .f32) (ix4 a b k ch)
      = planeOf (argZ m c) (rowsOf (argA m c)) ⟨ch.val, by omega⟩ (ix2 (mapIx a b) ⟨k.val, by omega⟩) := by
  show StableHlo.after Gen.hostOps2 (Body.W3 m c) _ _ = _
  unfold Gen.hostOps2
  after_results_simp
  rw [W3_planes]
  generalize planeOf (argZ m c) (rowsOf (argA m c)) = Q
  pointwise
  rfl

theorem W4_v10 (a : Fin 4) (b : Fin 16) :
    (Body.W4 m c (Proc.devRef .tc main_v10) : S4x16.Idx → BitVec 32) (ix2 a b)
      = FloatOps.fptosi (F := Ideal) (φ := .f32) 32 (planeOf (argZ m c) (rowsOf (argA m c)) 4 (ix2 (mapIx a b) 0)) := by
  show StableHlo.after Gen.hostOps2 (Body.W3 m c) _ _ = _
  unfold Gen.hostOps2
  after_results_simp
  rw [W3_planes]
  generalize planeOf (argZ m c) (rowsOf (argA m c)) = Q
  pointwise
  rfl

theorem fptosi_ofN (n : ℕ) (h : n < 2 ^ 31) : (FloatOps.fptosi (F := Ideal) (φ := .f32) 32 (ofN n) : BitVec 32) = BitVec.ofNat 32 n := by
  show Ideal.fptosi 32 ((n : ℝ) : EReal) = _
  unfold Ideal.fptosi
  have e : Ideal.toIntClamped (-(2 ^ (32 - 1) : ℕ)) ((2 ^ (32 - 1) : ℕ) - 1) ((n : ℝ) : EReal) = (n : ℤ) := by
    show max _ (min _ (if (0 : ℝ) ≤ (n : ℝ) then ⌊(n : ℝ)⌋ else ⌈(n : ℝ)⌉)) = _
    rw [if_pos (Nat.cast_nonneg n), Int.floor_natCast]
    norm_num
    omega
  rw [e]
  exact BitVec.ofInt_natCast ..

theorem whole_apply (X : FVec Ideal Pk .f32) (t : Fin 64) (k : Fin 640) : whole X (ix2 t k) = X (ix2 t k) := by
  unfold whole
  pointwise

theorem rowOf (A : FVec Ideal Scores4 .f32) (t : Fin 64) :
    RowOf (rowsOf A) t (cellV (fn (mapAt A t))) (cellN (fn (mapAt A t))) (mapV (fn (mapAt A t))) (mapN (fn (mapAt A t))) where
  scores q := by
    unfold scores
    pointwise
    rw [whole_apply]
    exact packed_scores _ q _ rfl
  places q := by
    unfold places
    pointwise
    rw [whole_apply]
    exact packed_places _ q _ rfl
  minPlace := by
    unfold minPlace
    pointwise
    rw [whole_apply]
    exact packed_minPlace _
  minValue := by
    unfold minValue
    pointwise
    rw [whole_apply]
    exact packed_minValue _
  small q := cellN_lt _ q

theorem kernel_points (π : Fin 64 → Fin 256 → Fin 256) (hπ : ∀ t, Ranked (keyOf (cellV (fn (mapAt (argA m c) t)))) (π t))
    (a : Fin 4) (b : Fin 16) (k : Fin 42) (ch : Fin 4) :
    (Body.W4 m c (Proc.devRef .tc main_v6) : S4x16x42x4.Idx → Ideal .f32) (ix4 a b k ch)
      = pointAt (argA m c) (argZ m c) π a b k ch := by
  rw [W4_v6]
  have hi : (mapIx a b).val / 16 = a.val := by unfold mapIx; show (a.val * 16 + b.val) / 16 = a.val; omega
  have h := rowOf (argA m c) (mapIx a b)
  unfold pointAt
  match ch with
  | 0 => exact h.outX (hπ _) (fun t => argZ m c t 1) (fun t => argZ m c t 0) ⟨k.val, by omega⟩ a hi
  | 1 => exact h.outY (hπ _) (fun t => argZ m c t 1) (fun t => argZ m c t 0) ⟨k.val, by omega⟩ a hi
  | 2 => exact h.outS (hπ _) _ _ ⟨k.val, by omega⟩
  | 3 => exact h.outV (hπ _) _ _ ⟨k.val, by omega⟩

theorem kernel_counts (a : Fin 4) (b : Fin 16) :
    (Body.W4 m c (Proc.devRef .tc main_v10) : S4x16.Idx → BitVec 32) (ix2 a b)
      = cnt (cellV (fn (mapAt (argA m c) (mapIx a b)))) + 1#32 := by
  rw [W4_v10]
  have h := rowOf (argA m c) (mapIx a b)
  have hc := cnt_le (cellV (fn (mapAt (argA m c) (mapIx a b))))
  rw [show planeOf (argZ m c) (rowsOf (argA m c)) 4 (ix2 (mapIx a b) 0) = _ from h.outN 0, fptosi_ofN _ (by omega)]
  apply BitVec.eq_of_toNat_eq
  rw [BitVec.toNat_add, BitVec.toNat_ofNat]
  rfl

end Cert.Value

end
-- ==== Proof.Value.RefCells.lean ====
/- What the reference finds in each cell of each map: the greatest value over the threshold and the lowest position of it. -/
module

public import proofs.«01_k».proof.Proof.Gen.ReferenceIdeal.Run
public import proofs.«01_k».proof.Proof.Value.Maps
public import Idealize.ShloMosaic.Lib.ValueIdxRank6

@[expose] public section

set_option maxRecDepth 16384

noncomputable section

namespace Cert.Value

open Idealize.ShloMosaic Idealize.ShloMosaic.StableHlo Idealize.ShloMosaic.TcCoe Cert.Model Cert.ReferenceIdeal Cert.ReferenceIdeal.Value Cert.ReferenceIdeal.Facts

abbrev Six : Shape := ⟨6, ![4, 16, 16, 32, 16, 32]⟩
abbrev Four : Shape := ⟨4, ![4, 16, 16, 16]⟩

/-- A reduction over a cell's rows and lanes folds the cell's elements. -/
theorem reduce_cells {α : Type} {u : Shape} (op : α → α → α) [Std.Commutative op] [Std.Associative op] (x : Six.Idx → α) (init : u.Idx → α)
    (h : Six.ReducesTo [3, 5] Four) (hu : 0 < u.numel) (a : Fin 4) (b g j : Fin 16) :
    Host.reduce op x init h hu (ix4 a b g j) = Finset.univ.fold op (init (Shape.Idx.first hu)) (fun k : Fin 32 × Fin 32 => x (ix6 a b g k.1 j k.2)) := by
  rw [Host.reduce_eq_fold]
  refine Finset.fold_filter_eq_fold_of_fiber op _ (fun k : Fin 32 × Fin 32 => (ix6 a b g k.1 j k.2 : Six.Idx))
    (fun _ _ e => Prod.ext (congrFun e 3) (congrFun e 5)) (fun i => ⟨fun e => ⟨(i 3, i 5), ?_⟩, ?_⟩) _ _
  · have d0 := h.drop_apply_val_of_eq i 0 0
    have d1 := h.drop_apply_val_of_eq i 1 1
    have d2 := h.drop_apply_val_of_eq i 2 2
    have d3 := h.drop_apply_val_of_eq i 3 4
    rw [e] at d0 d1 d2 d3
    funext c
    apply Fin.ext
    match c with
    | ⟨0, _⟩ => exact d0
    | ⟨1, _⟩ => exact d1
    | ⟨2, _⟩ => exact d2
    | ⟨3, _⟩ => rfl
    | ⟨4, _⟩ => exact d3
    | ⟨5, _⟩ => rfl
  · rintro ⟨k, rfl⟩
    funext c
    apply Fin.ext
    match c with
    | ⟨0, _⟩ => exact h.drop_apply_val_of_eq _ 0 0
    | ⟨1, _⟩ => exact h.drop_apply_val_of_eq _ 1 1
    | ⟨2, _⟩ => exact h.drop_apply_val_of_eq _ 2 2
    | ⟨3, _⟩ => exact h.drop_apply_val_of_eq _ 3 4

variable (V : Valuation τ sig (Elt Ideal))

/-- The reference's scores. -/
abbrev scoresOf : FVec Ideal Scores4 .f32 := V (Proc.devRef .tc main_arg0)
/-- One map of them. -/
abbrev refMap (a : Fin 4) (b : Fin 16) : Fin 512 → Fin 512 → EReal := fn (mapAt (scoresOf V) (mapIx a b))

theorem refMap_apply (a : Fin 4) (b : Fin 16) (r l : Fin 512) : refMap V a b r l = scoresOf V (ix4 a b r l) := by
  unfold refMap fn mapAt
  have h1 : (⟨(mapIx a b).val / 16, by omega⟩ : Fin 4) = a := Fin.ext (by show (a.val * 16 + b.val) / 16 = a.val; omega)
  have h2 : (⟨(mapIx a b).val % 16, by omega⟩ : Fin 16) = b := Fin.ext (by show (a.val * 16 + b.val) % 16 = b.val; omega)
  show scoresOf V (ix4 ⟨(mapIx a b).val / 16, _⟩ ⟨(mapIx a b).val % 16, _⟩ r l) = _
  rw [h1, h2]

theorem v1_apply (a : Fin 4) (b g j : Fin 16) (r l : Fin 32) :
    (res_main_v1 V : Six.Idx → EReal) (ix6 a b g r j l) = refMap V a b (at32 g r) (at32 j l) := by
  rw [refMap_apply]
  unfold res_main_v1
  refine shapeCast_apply (s := Scores4) (t := Six) _ _ _ _ ?_
  rw [Shape.rowMajor_val_four, Shape.rowMajor_val_six]
  simp [ix4, ix6, at32]
  omega

theorem v6_apply (a : Fin 4) (b g j : Fin 16) (r l : Fin 32) :
    (res_main_v6 V : Six.Idx → EReal) (ix6 a b g r j l) = msk (refMap V a b) (at32 g r) (at32 j l) := by
  unfold res_main_v6 res_main_v5
  pointwise
  rw [v1_apply, show id (constant S_ FTy.f32 4286578688#32 : FVec Ideal S_ .f32) ix0 = ⊥ from ofBits_bot]
  rfl

theorem v8_apply (a : Fin 4) (b g j : Fin 16) :
    (res_main_v8 V : (⟨6, ![4, 16, 16, 1, 16, 1]⟩ : Shape).Idx → EReal) (ix6 a b g 0 j 0)
      = Finset.univ.fold max ⊥ (fun k : Fin 32 × Fin 32 => msk (refMap V a b) (at32 g k.1) (at32 j k.2)) := by
  unfold res_main_v8
  refine (broadcastInDim_apply (s := Four) _ _ _ (ix6 a b g 0 j 0) (ix4 a b g j) ?_).trans ?_
  · intro c
    fin_cases c <;> rfl
  · refine (reduce_cells (α := EReal) max _ _ _ _ a b g j).trans ?_
    have e : ∀ k : Fin 32 × Fin 32, (res_main_v6 V : Six.Idx → EReal) (ix6 a b g k.1 j k.2) = msk (refMap V a b) (at32 g k.1) (at32 j k.2) :=
      fun k => v6_apply V a b g j k.1 k.2
    simp only [e]
    congr 1

/-- A cell's greatest masked value is that of the fold. -/
theorem fold_eq_cellV (m : Fin 512 → Fin 512 → EReal) (q : Fin 256) :
    Finset.univ.fold max ⊥ (fun k : Fin 32 × Fin 32 => msk m (at32 (cg q) k.1) (at32 (cj q) k.2)) = cellV m q := by
  obtain ⟨h1, k, h2⟩ := fold_max (fun k : Fin 32 × Fin 32 => msk m (at32 (cg q) k.1) (at32 (cj q) k.2))
  obtain ⟨a, b, e, _⟩ := (cellS m q).mem
  exact le_antisymm (h2 ▸ (cellS m q).le k.1 k.2) (e ▸ h1 (a, b))

/-- A cell's greatest masked value is the bottom, or over the threshold and then an element of the map. -/
theorem cellV_cases (m : Fin 512 → Fin 512 → EReal) (q : Fin 256) : cellV m q = ⊥ ∨ (θ < cellV m q ∧ ∃ r l, m r l = cellV m q) := by
  obtain ⟨a, b, e, _⟩ := (cellS m q).mem
  unfold msk at e
  split at e
  · rename_i h; rw [← e]; exact .inr ⟨h, _, _, rfl⟩
  · exact .inl e.symm

theorem v8_cell (a : Fin 4) (b : Fin 16) (q : Fin 256) :
    (res_main_v8 V : (⟨6, ![4, 16, 16, 1, 16, 1]⟩ : Shape).Idx → EReal) (ix6 a b (cg q) 0 (cj q) 0) = cellV (refMap V a b) q := by
  rw [v8_apply, fold_eq_cellV]

abbrev SixUnit : Shape := ⟨6, ![4, 16, 16, 1, 16, 1]⟩
abbrev Three : Shape := ⟨3, ![4, 16, 256]⟩

theorem flatten_apply {α : Type} (x : SixUnit.Idx → α) (h) (a : Fin 4) (b : Fin 16) (q : Fin 256) :
    shapeCast Three x h (ix3 a b q) = x (ix6 a b (cg q) 0 (cj q) 0) := by
  refine shapeCast_apply (s := SixUnit) (t := Three) _ _ _ _ ?_
  rw [Shape.rowMajor_val_three, Shape.rowMajor_val_six]
  simp [ix3, ix6, cg, cj]
  omega

theorem absf_lt_top (x : EReal) : max x (-x) < ⊤ ↔ ⊥ < x ∧ x < ⊤ := by
  induction x using EReal.rec with
  | bot => simp
  | top => simp
  | coe r => simp [EReal.bot_lt_coe, EReal.coe_lt_top, ← EReal.coe_neg]

theorem finite_apply (y : FVec Ideal SixUnit .f32) (h) (i : SixUnit.Idx) :
    cmpf .olt (Host.absf y) (broadcastInDim SixUnit ![] h (constant S_ .f32 0x7F800000#32)) i = BitVec.ofBool (decide (⊥ < y i ∧ y i < ⊤)) := by
  have e : (constant S_ .f32 0x7F800000#32 : FVec Ideal S_ .f32) = fun _ => ⊤ := funext fun _ => ofBits_top
  rw [e]
  show BitVec.ofBool (decide (max (y i) (-(y i)) < ⊤)) = _
  congr 2
  exact propext (absf_lt_top _)

/-- The mark of a cell: whether any of it is over the threshold. -/
theorem v18_apply (hV : ∀ i, scoresOf V i < ⊤) (a : Fin 4) (b : Fin 16) (q : Fin 256) :
    (res_main_v18 V : Three.Idx → BitVec 1) (ix3 a b q) = BitVec.ofBool (decide (θ < cellV (refMap V a b) q)) := by
  unfold res_main_v18
  refine (flatten_apply _ _ a b q).trans ((finite_apply _ _ _).trans ?_)
  rw [v8_cell V a b q]
  congr 2
  apply propext
  rcases cellV_cases (refMap V a b) q with h | ⟨h, r, l, h'⟩
  · rw [h]; simp
  · have h1 : cellV (refMap V a b) q < ⊤ := by rw [← h', refMap_apply]; exact hV _
    exact ⟨fun _ => h, fun _ => ⟨lt_of_le_of_lt bot_le h, h1⟩⟩

end Cert.Value

end
-- ==== Proof.Value.RefKeys.lean ====
/- What the reference sorts: each cell's position, score, mark and key; and how many cells of each map are over the threshold. -/
module

public import proofs.«01_k».proof.Proof.Value.RefCells
public import Idealize.ShloMosaic.Lib.StableHlo.Predicate

@[expose] public section

set_option maxRecDepth 16384

noncomputable section

namespace Cert.Value

open Idealize.ShloMosaic Idealize.ShloMosaic.StableHlo Idealize.ShloMosaic.TcCoe Cert.Model Cert.ReferenceIdeal Cert.ReferenceIdeal.Value Cert.ReferenceIdeal.Gen

variable (V : Valuation τ sig (Elt Ideal))

theorem flat4_apply {α : Type} (x : Four.Idx → α) (h) (a : Fin 4) (b : Fin 16) (q : Fin 256) :
    shapeCast Three x h (ix3 a b q) = x (ix4 a b (cg q) (cj q)) := by
  refine shapeCast_apply (s := Four) (t := Three) _ _ _ _ ?_
  rw [Shape.rowMajor_val_three, Shape.rowMajor_val_four]
  simp [ix3, ix4, cg, cj]
  omega

abbrev Flat : Shape := ⟨1, ![262144]⟩
abbrev CellIx : Shape := ⟨4, ![16, 32, 16, 32]⟩

/-- The flat position of a cell's element. -/
theorem position_apply (h1) (h2) (a : Fin 4) (b g j : Fin 16) (r l : Fin 32) :
    broadcastInDim Six ![2, 3, 4, 5] h1 (shapeCast CellIx (iotaInDim Flat 32 0) h2) (ix6 a b g r j l)
      = BitVec.ofNat 32 ((at32 g r).val * 512 + (at32 j l).val) := by
  refine (broadcastInDim_apply (s := CellIx) _ _ _ (ix6 a b g r j l) (ix4 g r j l) (fun c => by fin_cases c <;> rfl)).trans ?_
  refine (shapeCast_apply (s := Flat) (t := CellIx) _ _ (ix4 g r j l) (ix1 ⟨(at32 g r).val * 512 + (at32 j l).val, by
    have := (at32 g r).isLt; have := (at32 j l).isLt; omega⟩) ?_).trans rfl
  rw [Shape.rowMajor_val_one, Shape.rowMajor_val_four]
  simp [ix4, ix1, at32]
  omega

theorem unit_apply (y : FVec Ideal SixUnit .f32) (h) (a : Fin 4) (b g j : Fin 16) (r l : Fin 32) :
    broadcastInDim Six ![0, 1, 2, 3, 4, 5] h y (ix6 a b g r j l) = y (ix6 a b g 0 j 0) :=
  broadcastInDim_apply (s := SixUnit) _ _ _ _ _ (fun c => by fin_cases c <;> rfl)

theorem select_at {α : Type} {s : Shape} (c : IVec s 1) (x y : s.Idx → α) (i : s.Idx) : select c x y i = Scalar.select (c i) (x i) (y i) := rfl

/-- The lowest position, among a cell's marked elements, of those that equal the cell's value. -/
def lowestOf (m5 : IVec Six 1) (x6 : FVec Ideal Six .f32) (y8 : FVec Ideal SixUnit .f32) : IVec Three 32 :=
  shapeCast Three (Host.reduce IntOp.minsi (select (andi m5 (cmpf .oeq x6 (broadcastInDim Six ![0, 1, 2, 3, 4, 5] bcast_S4x16x16x1x16x1_S4x16x16x32x16x32_0_1_2_3_4_5 y8)))
        (broadcastInDim Six ![2, 3, 4, 5] bcast_S16x32x16x32_S4x16x16x32x16x32_2_3_4_5 (shapeCast CellIx (iotaInDim Flat 32 0) shapeCasts_S262144_S16x32x16x32))
        (broadcastInDim Six ![] bcast_S_S4x16x16x32x16x32 (id (constantI S_ 32 262144#32)))) (constantI S_ 32 2147483647#32)
      reducesTo_S4x16x16x32x16x32_S4x16x16x16_d3_5 h_S_ : IVec Four 32) shapeCasts_S4x16x16x16_S4x16x256

theorem lowest_apply (m5 : IVec Six 1) (x6 : FVec Ideal Six .f32) (y8 : FVec Ideal SixUnit .f32) (a : Fin 4) (b : Fin 16) (q : Fin 256) :
    lowestOf m5 x6 y8 (ix3 a b q)
      = Finset.univ.fold IntOp.minsi 2147483647#32 (fun k : Fin 32 × Fin 32 =>
          if m5 (ix6 a b (cg q) k.1 (cj q) k.2) = 1#1 ∧ x6 (ix6 a b (cg q) k.1 (cj q) k.2) = y8 (ix6 a b (cg q) 0 (cj q) 0)
          then BitVec.ofNat 32 ((at32 (cg q) k.1).val * 512 + (at32 (cj q) k.2).val) else 262144#32) := by
  unfold lowestOf
  rw [flat4_apply, reduce_cells]
  congr 1
  funext k
  rw [select_at, position_apply]
  show Scalar.select (IntOp.andi (m5 _) (BitVec.ofBool (decide (x6 _ = broadcastInDim Six ![0, 1, 2, 3, 4, 5] _ y8 _)))) _ _ = _
  rw [unit_apply]
  generalize m5 (ix6 a b (cg q) k.1 (cj q) k.2) = w
  have hw : w = 0#1 ∨ w = 1#1 := by revert w; decide
  rcases hw with rfl | rfl
  · simp [Scalar.select, IntOp.andi]
    rfl
  · by_cases hc : x6 (ix6 a b (cg q) k.1 (cj q) k.2) = y8 (ix6 a b (cg q) 0 (cj q) 0)
    · simp [hc, Scalar.select, IntOp.andi]
    · simp [hc, Scalar.select, IntOp.andi]
      rfl

theorem v19_eq : (res_main_v19 V : Three.Idx → BitVec 32)
    = select (res_main_v18 V) (lowestOf (res_main_v5 V) (res_main_v6 V) (res_main_v8 V)) (fun _ => 0#32) := by
  unfold res_main_v19 lowestOf
  rfl

theorem v5_apply (a : Fin 4) (b g j : Fin 16) (r l : Fin 32) :
    (res_main_v5 V : Six.Idx → BitVec 1) (ix6 a b g r j l) = BitVec.ofBool (decide (θ < refMap V a b (at32 g r) (at32 j l))) := by
  rw [← v1_apply]
  rfl

/-- The lowest position of a cell's greatest value over the threshold, and zero when the cell has none. -/
theorem v19_apply (hV : ∀ i, scoresOf V i < ⊤) (a : Fin 4) (b : Fin 16) (q : Fin 256) :
    (res_main_v19 V : Three.Idx → BitVec 32) (ix3 a b q)
      = BitVec.ofNat 32 (if θ < cellV (refMap V a b) q then cellN (refMap V a b) q else 0) := by
  rw [v19_eq, select_at, v18_apply V hV, lowest_apply]
  by_cases hθ : θ < cellV (refMap V a b) q
  · rw [if_pos hθ]
    simp only [hθ, decide_true]
    obtain ⟨⟨k, hk, e⟩, hl⟩ := fold_minsi (fun k : Fin 32 × Fin 32 => msk (refMap V a b) (at32 (cg q) k.1) (at32 (cj q) k.2) = cellV (refMap V a b) q)
      (fun k => BitVec.ofNat 32 ((at32 (cg q) k.1).val * 512 + (at32 (cj q) k.2).val)) 262144#32 2147483647#32 (by decide) (by decide) (by decide)
      (fun k _ => by
        have := (at32 (cg q) k.1).isLt; have := (at32 (cj q) k.2).isLt
        simp only [BitVec.toNat_ofNat]; omega)
      (by obtain ⟨r, l, e, _⟩ := (cellS (refMap V a b) q).mem; exact ⟨(r, l), e⟩)
    have hc : ∀ k : Fin 32 × Fin 32, ((res_main_v5 V : Six.Idx → BitVec 1) (ix6 a b (cg q) k.1 (cj q) k.2) = 1#1
        ∧ (res_main_v6 V : Six.Idx → EReal) (ix6 a b (cg q) k.1 (cj q) k.2) = (res_main_v8 V : SixUnit.Idx → EReal) (ix6 a b (cg q) 0 (cj q) 0))
        ↔ msk (refMap V a b) (at32 (cg q) k.1) (at32 (cj q) k.2) = cellV (refMap V a b) q := by
      intro k
      rw [v8_cell, v6_apply, v5_apply]
      constructor
      · exact fun h => h.2
      · intro h
        refine ⟨?_, h⟩
        have h1 : θ < refMap V a b (at32 (cg q) k.1) (at32 (cj q) k.2) := by
          by_contra h'
          rw [msk, if_neg h'] at h
          rw [← h] at hθ
          exact not_lt_bot hθ
        simp [h1]
    simp only [hc]
    have hn : cellN (refMap V a b) q = (at32 (cg q) k.1).val * 512 + (at32 (cj q) k.2).val := by
      refine ((cellS (refMap V a b) q).unique ⟨(cellS (refMap V a b) q).le, ⟨k.1, k.2, hk, rfl⟩, fun r l h => ?_⟩).2
      have := hl (r, l) h
      rw [e] at this
      have := (at32 (cg q) k.1).isLt; have := (at32 (cj q) k.2).isLt
      have := (at32 (cg q) r).isLt; have := (at32 (cj q) l).isLt
      simp only [BitVec.toNat_ofNat] at *
      omega
    rw [hn]
    exact e
  · rw [if_neg hθ]
    simp only [hθ, decide_false]
    rfl

abbrev Pixels : Shape := ⟨3, ![4, 16, 262144]⟩
abbrev Lookup : Shape := ⟨4, ![4, 16, 256, 1]⟩

/-- The lookup of one element of each map by a word that lies in the map. -/
theorem gather_apply (x : FVec Ideal Pixels .f32) (z : IVec Lookup 32) (a : Fin 4) (b : Fin 16) (q : Fin 256) (n : Fin 262144)
    (hn : (z (ix4 a b q 0)).toInt = (n.val : Int)) :
    Host.gather gather_S4x16x262144_S4x16x256x1_S4x16x256_n_2_01_01_2_3_111 x z (ix3 a b q) = x (ix3 a b n) := by
  show x _ = x _
  congr 1
  have hs : gather_S4x16x262144_S4x16x256x1_S4x16x256_n_2_01_01_2_3_111.siIdx (ix3 a b q) ⟨0, by decide⟩ = ix4 a b q 0 := by
    funext e
    fin_cases e <;> rfl
  refine (eq_ix3 _).trans ?_
  congr 1
  · apply Fin.ext
    show GatherDims.start _ _ _ _ + GatherDims.batchCoord _ _ _ + GatherDims.offCoord _ _ _ = _
    rw [GatherDims.start_batching _ _ _ _ (by decide), GatherDims.offCoord_eq_zero _ _ _ (by decide), Nat.add_zero, Nat.zero_add]
    rfl
  · apply Fin.ext
    show GatherDims.start _ _ _ _ + GatherDims.batchCoord _ _ _ + GatherDims.offCoord _ _ _ = _
    rw [GatherDims.start_batching _ _ _ _ (by decide), GatherDims.offCoord_eq_zero _ _ _ (by decide), Nat.add_zero, Nat.zero_add]
    rfl
  · apply Fin.ext
    show min (z (gather_S4x16x262144_S4x16x256x1_S4x16x256_n_2_01_01_2_3_111.siIdx (ix3 a b q) ⟨0, by decide⟩)).toInt.toNat 262143 + 0 + 0 = n.val
    rw [hs, hn]
    have := n.isLt
    simp
    omega

theorem pixels_apply (a : Fin 4) (b : Fin 16) (n : Fin 262144) :
    (res_main_v0 V : Pixels.Idx → EReal) (ix3 a b n) = refMap V a b ⟨n.val / 512, by omega⟩ ⟨n.val % 512, by omega⟩ := by
  rw [refMap_apply]
  unfold res_main_v0
  refine shapeCast_apply (s := Scores4) (t := Pixels) _ _ _ _ ?_
  rw [Shape.rowMajor_val_three, Shape.rowMajor_val_four]
  simp [ix3, ix4]
  omega

/-- The words of a lookup: a negative one would count from the end. -/
def lookup (w : IVec Three 32) : IVec Lookup 32 :=
  shapeCast Lookup (select (cmpi .slt w (broadcastInDim Three ![] bcast_S_S4x16x256 (constantI S_ 32 0#32)))
    (addi w (broadcastInDim Three ![] bcast_S_S4x16x256 (constantI S_ 32 262144#32))) w) shapeCasts_S4x16x256_S4x16x256x1

theorem lookup_apply (w : IVec Three 32) (a : Fin 4) (b : Fin 16) (q : Fin 256) (n : ℕ) (hn : n < 262144) (h : w (ix3 a b q) = BitVec.ofNat 32 n) :
    (lookup w (ix4 a b q 0)).toInt = (n : Int) := by
  have e : lookup w (ix4 a b q 0) = w (ix3 a b q) := by
    unfold lookup
    refine (shapeCast_apply (s := Three) (t := Lookup) _ _ (ix4 a b q 0) (ix3 a b q) ?_).trans ?_
    · rw [Shape.rowMajor_val_three, Shape.rowMajor_val_four]
      simp [ix3, ix4]
    · show Scalar.select (BitVec.ofBool (decide ((w (ix3 a b q)).toInt < (0#32 : BitVec 32).toInt))) _ _ = _
      rw [h, StableHlo.Predicate.toInt_ofNat_small _ (by omega)]
      have : ¬ ((n : Int) < (0#32 : BitVec 32).toInt) := by simp
      rw [decide_eq_false this]
      rfl
  rw [e, h, StableHlo.Predicate.toInt_ofNat_small _ (by omega)]

theorem v20_eq : (res_main_v20 V : Three.Idx → EReal)
    = Host.gather gather_S4x16x262144_S4x16x256x1_S4x16x256_n_2_01_01_2_3_111 (res_main_v0 V) (lookup (res_main_v19 V)) := by
  unfold res_main_v20 lookup
  rfl

/-- The score looked up for a cell over the threshold is its greatest value. -/
theorem v20_apply (hV : ∀ i, scoresOf V i < ⊤) (a : Fin 4) (b : Fin 16) (q : Fin 256) (h : θ < cellV (refMap V a b) q) :
    (res_main_v20 V : Three.Idx → EReal) (ix3 a b q) = cellV (refMap V a b) q := by
  obtain ⟨r, l, e, en⟩ := (cellS (refMap V a b) q).mem
  have hr := (at32 (cg q) r).isLt
  have hl := (at32 (cj q) l).isLt
  have h19 : (res_main_v19 V : Three.Idx → BitVec 32) (ix3 a b q) = BitVec.ofNat 32 (cellN (refMap V a b) q) := by
    rw [v19_apply V hV, if_pos h]
  have hn := cellN_lt (refMap V a b) q
  rw [v20_eq, gather_apply _ _ a b q ⟨cellN (refMap V a b) q, hn⟩ (lookup_apply _ a b q _ hn h19), pixels_apply]
  have e1 : (⟨cellN (refMap V a b) q / 512, by omega⟩ : Fin 512) = at32 (cg q) r := Fin.ext (by show cellN (refMap V a b) q / 512 = _; omega)
  have e2 : (⟨cellN (refMap V a b) q % 512, by omega⟩ : Fin 512) = at32 (cj q) l := Fin.ext (by show cellN (refMap V a b) q % 512 = _; omega)
  show refMap V a b ⟨cellN (refMap V a b) q / 512, _⟩ ⟨cellN (refMap V a b) q % 512, _⟩ = _
  rw [e1, e2]
  unfold msk at e
  split at e
  · exact e
  · rw [← e] at h; exact absurd h not_lt_bot

/-- The sort's keys from the marks and the scores. -/
def sortKey (m : IVec Three 1) (x : FVec Ideal Three .f32) : FVec Ideal Three .f32 :=
  Host.negf (select m x (broadcastInDim Three ![] bcast_S_S4x16x256 (id (constant S_ .f32 0xF149F2CA#32))))

theorem sortKey_apply (m : IVec Three 1) (x : FVec Ideal Three .f32) (i : Three.Idx) :
    sortKey m x i = (-(Scalar.select (m i) (x i : EReal) low) : EReal) := rfl

theorem v22_eq : (res_main_v22 V : Three.Idx → EReal) = sortKey (res_main_v18 V) (res_main_v20 V) := by
  unfold res_main_v22 sortKey
  rfl

/-- The sort's key: the negated score of a cell over the threshold, the negated sentinel of any other. -/
theorem v22_apply (hV : ∀ i, scoresOf V i < ⊤) (a : Fin 4) (b : Fin 16) (q : Fin 256) :
    (res_main_v22 V : Three.Idx → EReal) (ix3 a b q) = -keyOf (cellV (refMap V a b)) q := by
  rw [v22_eq, sortKey_apply, v18_apply V hV]
  unfold keyOf
  by_cases h : θ < cellV (refMap V a b) q
  · rw [if_pos h, v20_apply V hV a b q h, decide_eq_true h]
    rfl
  · rw [if_neg h, decide_eq_false h]
    rfl

theorem v23_apply (hV : ∀ i, scoresOf V i < ⊤) (a : Fin 4) (b : Fin 16) (q : Fin 256) :
    (res_main_v23 V : Three.Idx → EReal) (ix3 a b q) = if θ < cellV (refMap V a b) q then (1 : EReal) else 0 := by
  have e : (res_main_v23 V : Three.Idx → EReal) (ix3 a b q) = ((((res_main_v18 V : Three.Idx → BitVec 1) (ix3 a b q)).toNat : ℝ) : EReal) := by
    unfold res_main_v23
    rfl
  rw [e, v18_apply V hV]
  by_cases h : θ < cellV (refMap V a b) q
  · rw [if_pos h, decide_eq_true h]; simp
  · rw [if_neg h, decide_eq_false h]; simp

abbrev Pairs : Shape := ⟨2, ![4, 16]⟩

/-- A reduction over the cells folds a map's row of them. -/
theorem reduce_row {α : Type} {u : Shape} (op : α → α → α) [Std.Commutative op] [Std.Associative op] (x : Three.Idx → α) (init : u.Idx → α)
    (h : Three.ReducesTo [2] Pairs) (hu : 0 < u.numel) (a : Fin 4) (b : Fin 16) :
    Host.reduce op x init h hu (ix2 a b) = Finset.univ.fold op (init (Shape.Idx.first hu)) (fun q : Fin 256 => x (ix3 a b q)) := by
  rw [Host.reduce_eq_fold]
  refine Finset.fold_filter_eq_fold_of_fiber op _ (fun q : Fin 256 => (ix3 a b q : Three.Idx))
    (fun _ _ e => congrFun e 2) (fun i => ⟨fun e => ⟨i 2, ?_⟩, ?_⟩) _ _
  · have d0 := h.drop_apply_val_of_eq i 0 0
    have d1 := h.drop_apply_val_of_eq i 1 1
    rw [e] at d0 d1
    funext c
    apply Fin.ext
    match c with
    | ⟨0, _⟩ => exact d0
    | ⟨1, _⟩ => exact d1
    | ⟨2, _⟩ => rfl
  · rintro ⟨k, rfl⟩
    funext c
    apply Fin.ext
    match c with
    | ⟨0, _⟩ => exact h.drop_apply_val_of_eq _ 0 0
    | ⟨1, _⟩ => exact h.drop_apply_val_of_eq _ 1 1

/-- The number of foreground points. -/
def countOf (m : IVec Three 1) : IVec Pairs 32 :=
  minsi (Host.reduce IntOp.addi (extui 32 m natLt_1_32) (constantI S_ 32 0#32) reducesTo_S4x16x256_S4x16_d2 h_S_)
    (broadcastInDim Pairs ![] bcast_S_S4x16 (constantI S_ 32 40#32))

theorem countOf_apply (m : IVec Three 1) (a : Fin 4) (b : Fin 16) :
    countOf m (ix2 a b) = IntOp.minsi (Finset.univ.fold IntOp.addi 0#32 (fun q : Fin 256 => BitVec.setWidth 32 (m (ix3 a b q)))) 40#32 := by
  have e1 : ∀ (u v : IVec Pairs 32) (i : Pairs.Idx), minsi u v i = IntOp.minsi (u i) (v i) := fun _ _ _ => rfl
  have e2 : ∀ q : Fin 256, extui 32 m natLt_1_32 (ix3 a b q) = BitVec.setWidth 32 (m (ix3 a b q)) := fun _ => rfl
  have e3 : broadcastInDim Pairs ![] bcast_S_S4x16 (constantI S_ 32 40#32) (ix2 a b) = 40#32 := rfl
  have e4 : constantI S_ 32 0#32 (Shape.Idx.first h_S_) = 0#32 := rfl
  unfold countOf
  rw [e1, reduce_row, e3, e4]
  simp only [e2]

theorem v37_eq : (res_main_v37 V : Pairs.Idx → BitVec 32) = countOf (res_main_v18 V) := by
  unfold res_main_v37 countOf
  rfl

theorem v37_apply (hV : ∀ i, scoresOf V i < ⊤) (a : Fin 4) (b : Fin 16) :
    (res_main_v37 V : Pairs.Idx → BitVec 32) (ix2 a b) = cnt (cellV (refMap V a b)) := by
  have e : (fun q : Fin 256 => BitVec.setWidth 32 ((res_main_v18 V : Three.Idx → BitVec 1) (ix3 a b q)))
      = fun q : Fin 256 => BitVec.setWidth 32 (BitVec.ofBool (decide (θ < cellV (refMap V a b) q))) := funext fun q => by rw [v18_apply V hV]
  rw [v37_eq, countOf_apply, e]
  unfold cnt
  rfl

end Cert.Value

end
-- ==== Proof.Value.RefSort.lean ====
/- The stable sort of the cells and the search for the least element, read at a position. -/
module

public import proofs.«01_k».proof.Proof.Value.RefKeys
public import proofs.«01_k».proof.Proof.Value.Greedy
public import Idealize.ShloMosaic.Lib.SortFacts

@[expose] public section

set_option maxRecDepth 16384

noncomputable section

namespace Cert.Value

open Idealize.ShloMosaic Idealize.ShloMosaic.StableHlo Idealize.ShloMosaic.TcCoe Cert.Model Cert.ReferenceIdeal Cert.ReferenceIdeal.Value Cert.ReferenceIdeal.Gen

/-! ## A stable sort by a key -/

/-- By the key, and by the position among equal keys. -/
def Before {n : ℕ} (key : Fin n → EReal) (i j : Fin n) : Prop := key i < key j ∨ (key i = key j ∧ i < j)

/-- The comparison of a sort by a key, ascending. -/
def byKey {n : ℕ} (key : Fin n → EReal) (i j : Fin n) : Bool := decide (key i < key j)

theorem pairwise_insertByKey {n : ℕ} (key : Fin n → EReal) (a : Fin n) (l : List (Fin n)) (hp : l.Pairwise (Before key)) (ha : ∀ b ∈ l, a < b) :
    (insertBefore (byKey key) a l).Pairwise (Before key) := by
  induction l with
  | nil => exact List.pairwise_singleton _ _
  | cons b l ih =>
    obtain ⟨hb, hl⟩ := List.pairwise_cons.1 hp
    unfold insertBefore
    by_cases h : key b < key a
    · rw [if_pos (show byKey key b a = true from decide_eq_true h)]
      refine List.pairwise_cons.2 ⟨fun c hc => ?_, ih hl fun c hc => ha c (List.mem_cons_of_mem _ hc)⟩
      rcases List.mem_cons.1 ((perm_insertBefore _ a l).mem_iff.1 hc) with rfl | hc
      · exact .inl h
      · exact hb c hc
    · rw [if_neg (show ¬ byKey key b a = true from fun h' => h (of_decide_eq_true h'))]
      refine List.pairwise_cons.2 ⟨fun c hc => ?_, hp⟩
      have hab : key a ≤ key b := not_lt.1 h
      have hbc : key b ≤ key c := by
        rcases List.mem_cons.1 hc with rfl | hc
        · exact le_rfl
        · rcases hb c hc with h' | ⟨h', -⟩
          · exact h'.le
          · exact h'.le
      rcases lt_or_eq_of_le (hab.trans hbc) with h' | h'
      · exact .inl h'
      · exact .inr ⟨h', ha c hc⟩

theorem pairwise_sortByKey {n : ℕ} (key : Fin n → EReal) (l : List (Fin n)) (hl : l.Pairwise (· < ·)) :
    (stableSort (byKey key) l).Pairwise (Before key) := by
  induction l with
  | nil => exact List.Pairwise.nil
  | cons a l ih =>
    obtain ⟨ha, hl⟩ := List.pairwise_cons.1 hl
    unfold stableSort
    exact pairwise_insertByKey key a _ (ih hl) fun b hb => ha b ((perm_stableSort _ l).mem_iff.1 hb)

/-- The positions of a stable sort by a key are in the order of the key, and in their own order among equal keys. -/
theorem sorted_before {n : ℕ} (key : Fin n → EReal) (i j : Fin n) (hij : i < j) :
    Before key (sortedFrom (byKey key) i) (sortedFrom (byKey key) j) := by
  have hp := List.pairwise_iff_get.1 (pairwise_sortByKey key (List.finRange n) (List.pairwise_lt_finRange n))
  exact hp (i.cast (length_sortPositions n (byKey key)).symm) (j.cast (length_sortPositions n (byKey key)).symm) hij

/-- The cells of a map in the order of the reference's sort. -/
def rankOf (m : Fin 512 → Fin 512 → EReal) : Fin 256 → Fin 256 := sortedFrom (byKey fun q => -keyOf (cellV m) q)

theorem ranked (m : Fin 512 → Fin 512 → EReal) : Ranked (keyOf (cellV m)) (rankOf m) where
  surj := sortedFrom_surjective _
  inj := sortedFrom_injective _
  before i j h := by
    rcases sorted_before (fun q => -keyOf (cellV m) q) i j h with h' | ⟨h', h''⟩
    · exact .inl (EReal.neg_lt_neg_iff.1 h')
    · exact .inr ⟨(neg_inj.1 h').symm, h''⟩

/-! ## The two sorts of the program -/

abbrev Deep (n : ℕ) : Shape := ⟨3, ![4, 16, n]⟩

theorem along_ix3 {n : ℕ} (a : Fin 4) (b : Fin 16) (k q : Fin n) : (ix3 a b k : (Deep n).Idx).along 2 q = ix3 a b q := by
  funext c
  fin_cases c <;> rfl

theorem sortBy_apply {n : ℕ} {ι α : Type} (cmp : ι → ι → BitVec 1) (rows : (Deep n).Idx → ι) (x : (Deep n).Idx → α) (key : Fin n → EReal)
    (a : Fin 4) (b : Fin 16) (h : ∀ i j, cmp (rows (ix3 a b i)) (rows (ix3 a b j)) = BitVec.ofBool (byKey key i j)) (k : Fin n) :
    Host.sortBy (Deep n) 2 cmp rows x (ix3 a b k) = x (ix3 a b (sortedFrom (byKey key) k)) := by
  have e : (fun i j => cmp (rows ((ix3 a b k : (Deep n).Idx).along 2 i)) (rows ((ix3 a b k : (Deep n).Idx).along 2 j)) == 1#1) = byKey key := by
    funext i j
    refine (congrArg (· == 1#1) ((congr (congrArg cmp (congrArg rows (along_ix3 a b k i))) (congrArg rows (along_ix3 a b k j))).trans (h i j))).trans ?_
    cases byKey key i j <;> rfl
  have e' : Host.sortBy (Deep n) 2 cmp rows x (ix3 a b k)
      = x ((ix3 a b k : (Deep n).Idx).along 2 (sortedFrom (fun i j => cmp (rows ((ix3 a b k : (Deep n).Idx).along 2 i)) (rows ((ix3 a b k : (Deep n).Idx).along 2 j)) == 1#1) k)) := rfl
  rw [e', e]
  exact congrArg x (along_ix3 a b k _)

theorem comparator_apply (l r : EReal × EReal × BitVec 32 × EReal) :
    comparator_f32_f32_i32_f32_d2 (F := Ideal) l r = BitVec.ofBool (decide (l.1 < r.1)) := by
  have key : ∀ y z n : EReal, Scalar.select (BitVec.ofBool (decide (y ≠ y))) n (Scalar.select (BitVec.ofBool (decide (y = z))) z y) = y := by
    intro y z n
    have : decide (y ≠ y) = false := by simp
    rw [this]
    by_cases h : y = z
    · rw [decide_eq_true h]; exact h.symm
    · rw [decide_eq_false h]; rfl
  show BitVec.ofBool (decide (Scalar.select (BitVec.ofBool (decide (l.1 ≠ l.1))) _ (Scalar.select (BitVec.ofBool (decide (l.1 = _))) _ l.1)
    < Scalar.select (BitVec.ofBool (decide (r.1 ≠ r.1))) _ (Scalar.select (BitVec.ofBool (decide (r.1 = _))) _ r.1))) = _
  rw [key, key]

/-- The stable sort carries each cell's score, position and mark along with its key. -/
theorem sort_apply (x y : FVec Ideal Three .f32) (z : IVec Three 32) (w : FVec Ideal Three .f32) (key : Fin 256 → EReal) (a : Fin 4) (b : Fin 16)
    (h : ∀ q, x (ix3 a b q) = key q) (k : Fin 256) :
    (Host.sort4 Three 2 comparator_f32_f32_i32_f32_d2 x y z w).2.1 (ix3 a b k) = y (ix3 a b (sortedFrom (byKey key) k))
    ∧ (Host.sort4 Three 2 comparator_f32_f32_i32_f32_d2 x y z w).2.2.1 (ix3 a b k) = z (ix3 a b (sortedFrom (byKey key) k))
    ∧ (Host.sort4 Three 2 comparator_f32_f32_i32_f32_d2 x y z w).2.2.2 (ix3 a b k) = w (ix3 a b (sortedFrom (byKey key) k)) := by
  have hc : ∀ i j : Fin 256, comparator_f32_f32_i32_f32_d2 (F := Ideal) (x (ix3 a b i), y (ix3 a b i), z (ix3 a b i), w (ix3 a b i))
      (x (ix3 a b j), y (ix3 a b j), z (ix3 a b j), w (ix3 a b j)) = BitVec.ofBool (byKey key i j) := by
    intro i j
    rw [comparator_apply]
    show BitVec.ofBool (decide (x (ix3 a b i) < x (ix3 a b j))) = _
    rw [h, h]
    rfl
  have e := Host.sort4_eq_sortBy Three 2 (comparator_f32_f32_i32_f32_d2 (F := Ideal)) x y z w
  exact ⟨(congrFun (congrArg (fun t => t.2.1) e) _).trans (sortBy_apply (n := 256) _ (fun j => (x j, y j, z j, w j)) y key a b hc k),
    (congrFun (congrArg (fun t => t.2.2.1) e) _).trans (sortBy_apply (n := 256) _ (fun j => (x j, y j, z j, w j)) z key a b hc k),
    (congrFun (congrArg (fun t => t.2.2.2) e) _).trans (sortBy_apply (n := 256) _ (fun j => (x j, y j, z j, w j)) w key a b hc k)⟩

abbrev Single : Shape := ⟨3, ![4, 16, 1]⟩

/-- The positions along a map. -/
def along : IVec Pixels 32 := fun i => BitVec.ofNat 32 (i 2).val

/-- The search's order: greater first. -/
def greater (l r : EReal × BitVec 32) : BitVec 1 := FloatOps.cmpfTotal (F := Ideal) (φ := .f32) .gt l.1 r.1

theorem greater_apply (x : FVec Ideal Pixels .f32) (key : Fin 262144 → EReal) (a : Fin 4) (b : Fin 16) (hx : ∀ n, x (ix3 a b n) = (-key n : EReal))
    (i j : Fin 262144) : greater (x (ix3 a b i), along (ix3 a b i)) (x (ix3 a b j), along (ix3 a b j)) = BitVec.ofBool (byKey key i j) := by
  show BitVec.ofBool (decide (x (ix3 a b j) < x (ix3 a b i))) = _
  rw [hx, hx]
  unfold byKey
  congr 2
  exact propext EReal.neg_lt_neg_iff

theorem first_apply {α : Type} (y : Pixels.Idx → α) (h : Pixels.Slices (fun _ => 0) Single) (a : Fin 4) (b : Fin 16) :
    extractStridedSlice Single (fun _ => 0) y h (ix3 a b 0) = y (ix3 a b ⟨0, by omega⟩) := by
  refine extractStridedSlice_apply _ _ _ _ _ (fun c => ?_)
  fin_cases c <;> simp [ix3]

theorem topK_eq (x : FVec Ideal Pixels .f32) (h) :
    (Host.topK Single 2 (FloatOps.cmpfTotal (F := Ideal) (φ := .f32) .gt) x h)
      = (extractStridedSlice Single (fun _ => 0) (Host.sortBy Pixels 2 greater (fun j => (x j, along j)) x) h,
        extractStridedSlice Single (fun _ => 0) (Host.sortBy Pixels 2 greater (fun j => (x j, along j)) along) h) := by
  have e := Host.sort2_eq_sortBy Pixels 2 greater x along
  unfold Host.topK
  have e2 : (fun i : Pixels.Idx => if hd : 2 < Pixels.rank then iotaInDim Pixels 32 ⟨2, hd⟩ i else 0#32) = along := by
    funext i
    rw [dif_pos (by decide)]
    rfl
  simp only [e2]
  exact congrArg (fun t => (extractStridedSlice Single (fun _ => 0) t.1 h, extractStridedSlice Single (fun _ => 0) t.2 h)) e

/-- The greatest element of a row and its position, by the sort that finds them. -/
theorem top_apply (x : FVec Ideal Pixels .f32) (h) (key : Fin 262144 → EReal) (a : Fin 4) (b : Fin 16) (hx : ∀ n, x (ix3 a b n) = (-key n : EReal)) :
    (Host.topK Single 2 (FloatOps.cmpfTotal (F := Ideal) (φ := .f32) .gt) x h).1 (ix3 a b 0) = (-key (sortedFrom (byKey key) ⟨0, by omega⟩) : EReal)
    ∧ (Host.topK Single 2 (FloatOps.cmpfTotal (F := Ideal) (φ := .f32) .gt) x h).2 (ix3 a b 0)
        = BitVec.ofNat 32 (sortedFrom (byKey key) ⟨0, by omega⟩).val := by
  rw [topK_eq]
  constructor
  · exact (first_apply _ h a b).trans ((sortBy_apply (n := 262144) greater (fun j => (x j, along j)) x key a b (greater_apply x key a b hx) _).trans (hx _))
  · exact (first_apply _ h a b).trans (sortBy_apply (n := 262144) greater (fun j => (x j, along j)) along key a b (greater_apply x key a b hx) _)

end Cert.Value

end
-- ==== Proof.Value.RefRows.lean ====
/- The reference's points: the sorted cells, the padding behind them and the background row written after the last of them. -/
module

public import proofs.«01_k».proof.Proof.Value.RefSort
public import Idealize.ShloMosaic.Lib.Routing.OpsSet
public import Idealize.ShloMosaic.Lib.Routing.OpsPair
public import Idealize.ShloMosaic.Lib.Routing.Words
public import Idealize.ShloMosaic.Lib.KernelVsHost

@[expose] public section

set_option maxRecDepth 16384

noncomputable section

namespace Cert.Value

open Idealize.ShloMosaic Idealize.ShloMosaic.StableHlo Idealize.ShloMosaic.TcCoe Cert.Model Cert.ReferenceIdeal Cert.ReferenceIdeal.Value Cert.ReferenceIdeal.Gen
open Idealize.ShloMosaic.Routing

abbrev Out : Shape := ⟨4, ![4, 16, 42, 4]⟩
abbrev Where : Shape := ⟨4, ![4, 16, 1, 3]⟩
abbrev Row : Shape := ⟨4, ![4, 16, 1, 4]⟩

/-- Where an update lands: at the row its words name, on its own component. -/
theorem lands_iff (z : IVec Where 32) (n : Fin 4 → Fin 16 → Fin 42)
    (h0 : ∀ a b, (z (ix4 a b 0 0)).toInt = (a.val : Int)) (h1 : ∀ a b, (z (ix4 a b 0 1)).toInt = (b.val : Int))
    (h2 : ∀ a b, (z (ix4 a b 0 2)).toInt = ((n a b).val : Int))
    (a' : Fin 4) (b' : Fin 16) (ch' : Fin 4) (a : Fin 4) (b : Fin 16) (k : Fin 42) (ch : Fin 4) :
    scatter_S4x16x42x4_S4x16x1x3_S4x16x1x4_3_012_012_3.resultIdx? (ix4 a' b' 0 ch') z = some (ix4 a b k ch)
      ↔ a' = a ∧ b' = b ∧ n a' b' = k ∧ ch' = ch := by
  have e : ∀ c : Fin 3, scatter_S4x16x42x4_S4x16x1x3_S4x16x1x4_3_012_012_3.siIdx (ix4 a' b' 0 ch') ⟨c.val, c.isLt⟩ = ix4 a' b' 0 c := by
    intro c
    funext x
    fin_cases x <;> rfl
  rw [resultIdx?_eq_some]
  constructor
  · intro h
    have g0 : (z (scatter_S4x16x42x4_S4x16x1x3_S4x16x1x4_3_012_012_3.siIdx (ix4 a' b' 0 ch') ⟨(0 : Fin 3).val, by decide⟩)).toInt + ((0 : Nat) : Int) = a.val := h 0
    have g1 : (z (scatter_S4x16x42x4_S4x16x1x3_S4x16x1x4_3_012_012_3.siIdx (ix4 a' b' 0 ch') ⟨(1 : Fin 3).val, by decide⟩)).toInt + ((0 : Nat) : Int) = b.val := h 1
    have g2 : (z (scatter_S4x16x42x4_S4x16x1x3_S4x16x1x4_3_012_012_3.siIdx (ix4 a' b' 0 ch') ⟨(2 : Fin 3).val, by decide⟩)).toInt + ((0 : Nat) : Int) = k.val := h 2
    have g3 : (0 : Int) + (ch'.val : Int) = ch.val := h 3
    rw [e, h0] at g0
    rw [e, h1] at g1
    rw [e, h2] at g2
    refine ⟨Fin.ext ?_, Fin.ext ?_, Fin.ext ?_, Fin.ext ?_⟩ <;> omega
  · rintro ⟨rfl, rfl, rfl, rfl⟩ c
    fin_cases c
    · show (z (scatter_S4x16x42x4_S4x16x1x3_S4x16x1x4_3_012_012_3.siIdx (ix4 a' b' 0 ch') ⟨(0 : Fin 3).val, by decide⟩)).toInt + ((0 : Nat) : Int) = a'.val
      rw [e, h0]; simp
    · show (z (scatter_S4x16x42x4_S4x16x1x3_S4x16x1x4_3_012_012_3.siIdx (ix4 a' b' 0 ch') ⟨(1 : Fin 3).val, by decide⟩)).toInt + ((0 : Nat) : Int) = b'.val
      rw [e, h1]; simp
    · show (z (scatter_S4x16x42x4_S4x16x1x3_S4x16x1x4_3_012_012_3.siIdx (ix4 a' b' 0 ch') ⟨(2 : Fin 3).val, by decide⟩)).toInt + ((0 : Nat) : Int) = (n a' b').val
      rw [e, h2]; simp
    · show (0 : Int) + (ch'.val : Int) = ch'.val
      simp

/-- The write of one row of each map, read at an element. -/
theorem scatter_apply (x : FVec Ideal Out .f32) (z : IVec Where 32) (u : FVec Ideal Row .f32) (n : Fin 4 → Fin 16 → Fin 42)
    (h0 : ∀ a b, (z (ix4 a b 0 0)).toInt = (a.val : Int)) (h1 : ∀ a b, (z (ix4 a b 0 1)).toInt = (b.val : Int))
    (h2 : ∀ a b, (z (ix4 a b 0 2)).toInt = ((n a b).val : Int)) (a : Fin 4) (b : Fin 16) (k : Fin 42) (ch : Fin 4) :
    Host.scatter scatter_S4x16x42x4_S4x16x1x3_S4x16x1x4_3_012_012_3 (fun _ w => w) x z u (ix4 a b k ch)
      = if n a b = k then u (ix4 a b 0 ch) else x (ix4 a b k ch) := by
  have hj : ∀ j : Row.Idx, j = ix4 (j 0) (j 1) 0 (j 3) := fun j => by
    funext c
    fin_cases c
    · rfl
    · rfl
    · exact Subsingleton.elim (α := Fin 1) _ _
    · rfl
  by_cases hk : n a b = k
  · rw [if_pos hk]
    refine scatter_set_hit _ x z u _ _ (fun j h => ?_) (ix4 a b 0 ch) ((lands_iff z n h0 h1 h2 a b ch a b k ch).2 ⟨rfl, rfl, hk, rfl⟩)
    rw [hj j] at h ⊢
    obtain ⟨ea, eb, -, ec⟩ := (lands_iff z n h0 h1 h2 (j 0) (j 1) (j 3) a b k ch).1 h
    rw [ea, eb, ec]
    rfl
  · rw [if_neg hk]
    refine scatter_set_miss _ x z u _ fun j h => hk ?_
    rw [hj j] at h
    obtain ⟨ea, eb, en, -⟩ := (lands_iff z n h0 h1 h2 (j 0) (j 1) (j 3) a b k ch).1 h
    rw [← en, ea, eb]

abbrev Scale : Shape := ⟨3, ![4, 1, 1]⟩
abbrev Rows (n c : ℕ) : Shape := ⟨4, ![4, 16, n, c]⟩

/-! ## Reads of the layout operations -/

theorem stack4_apply {n : ℕ} {α : Type} (p0 p1 p2 p3 : (Rows n 1).Idx → α) (h) (a : Fin 4) (b : Fin 16) (k : Fin n) (ch : Fin 4) :
    concatenate (Rows n 4) 3 [⟨Rows n 1, p0⟩, ⟨Rows n 1, p1⟩, ⟨Rows n 1, p2⟩, ⟨Rows n 1, p3⟩] h (ix4 a b k ch) = (![p0, p1, p2, p3] ch) (ix4 a b k 0) :=
  concatenate_ofFn_unit_apply (t := Rows n 4) (s₁ := Rows n 1) 3 ![p0, p1, p2, p3] h rfl rfl (ix4 a b k ch) ch rfl (ix4 a b k 0)
    (fun c hc => by match c with | ⟨0, _⟩ => rfl | ⟨1, _⟩ => rfl | ⟨2, _⟩ => rfl | ⟨3, _⟩ => exact absurd rfl hc)

theorem stack3_apply {α : Type} (p0 p1 p2 : (Rows 1 1).Idx → α) (h) (a : Fin 4) (b : Fin 16) (ch : Fin 3) :
    concatenate (Rows 1 3) 3 [⟨Rows 1 1, p0⟩, ⟨Rows 1 1, p1⟩, ⟨Rows 1 1, p2⟩] h (ix4 a b 0 ch) = (![p0, p1, p2] ch) (ix4 a b 0 0) :=
  concatenate_ofFn_unit_apply (t := Rows 1 3) (s₁ := Rows 1 1) 3 ![p0, p1, p2] h rfl rfl (ix4 a b 0 ch) ch rfl (ix4 a b 0 0)
    (fun c hc => by match c with | ⟨0, _⟩ => rfl | ⟨1, _⟩ => rfl | ⟨2, _⟩ => rfl | ⟨3, _⟩ => exact absurd rfl hc)

theorem widen_apply {n : ℕ} {α : Type} (x : (Deep n).Idx → α) (h) (a : Fin 4) (b : Fin 16) (k : Fin n) :
    broadcastInDim (Rows n 1) ![0, 1, 2] h x (ix4 a b k 0) = x (ix3 a b k) :=
  broadcastInDim_apply (s := Deep n) _ _ _ _ _ (fun c => by
    match c with
    | ⟨0, _⟩ => rfl
    | ⟨1, _⟩ => rfl
    | ⟨2, _⟩ => show k.val = if n = 1 then 0 else k.val; split <;> omega)

theorem rows4_apply {n : ℕ} {α : Type} (p0 p1 p2 p3 : (Deep n).Idx → α) (hw) (h) (a : Fin 4) (b : Fin 16) (k : Fin n) (ch : Fin 4) :
    concatenate (Rows n 4) 3 [⟨Rows n 1, broadcastInDim (Rows n 1) ![0, 1, 2] hw p0⟩, ⟨Rows n 1, broadcastInDim (Rows n 1) ![0, 1, 2] hw p1⟩,
        ⟨Rows n 1, broadcastInDim (Rows n 1) ![0, 1, 2] hw p2⟩, ⟨Rows n 1, broadcastInDim (Rows n 1) ![0, 1, 2] hw p3⟩] h (ix4 a b k ch)
      = ![p0 (ix3 a b k), p1 (ix3 a b k), p2 (ix3 a b k), p3 (ix3 a b k)] ch := by
  refine (stack4_apply _ _ _ _ h a b k ch).trans ?_
  match ch with
  | 0 => exact widen_apply p0 hw a b k
  | 1 => exact widen_apply p1 hw a b k
  | 2 => exact widen_apply p2 hw a b k
  | 3 => exact widen_apply p3 hw a b k

theorem rows3_apply {α : Type} (p0 p1 p2 : (Deep 1).Idx → α) (hw) (h) (a : Fin 4) (b : Fin 16) (ch : Fin 3) :
    concatenate (Rows 1 3) 3 [⟨Rows 1 1, broadcastInDim (Rows 1 1) ![0, 1, 2] hw p0⟩, ⟨Rows 1 1, broadcastInDim (Rows 1 1) ![0, 1, 2] hw p1⟩,
        ⟨Rows 1 1, broadcastInDim (Rows 1 1) ![0, 1, 2] hw p2⟩] h (ix4 a b 0 ch)
      = ![p0 (ix3 a b 0), p1 (ix3 a b 0), p2 (ix3 a b 0)] ch := by
  refine (stack3_apply _ _ _ h a b ch).trans ?_
  match ch with
  | 0 => exact widen_apply p0 hw a b 0
  | 1 => exact widen_apply p1 hw a b 0
  | 2 => exact widen_apply p2 hw a b 0

theorem spread_apply {n : ℕ} {α : Type} (x : Scale.Idx → α) (h) (a : Fin 4) (b : Fin 16) (k : Fin n) :
    broadcastInDim (Deep n) ![0, 1, 2] h x (ix3 a b k) = x (ix3 a 0 0) :=
  broadcastInDim_apply (s := Scale) _ _ _ _ _ (fun c => by fin_cases c <;> rfl)

theorem wrap_word (w c : BitVec 32) (n : ℕ) (h : w = BitVec.ofNat 32 n) (hn : n < 2 ^ 31) :
    (Scalar.select (IntOp.cmpi .slt w 0#32) (IntOp.addi w c) w).toInt = (n : Int) := by
  have e : IntOp.cmpi .slt w 0#32 = 0#1 := by
    show BitVec.ofBool (decide (w.toInt < (0#32 : BitVec 32).toInt)) = 0#1
    rw [h, StableHlo.Predicate.toInt_ofNat_small _ hn]
    have : ¬ ((n : Int) < (0#32 : BitVec 32).toInt) := by simp
    rw [decide_eq_false this]
    rfl
  rw [e]
  show w.toInt = _
  rw [h, StableHlo.Predicate.toInt_ofNat_small _ hn]

/-- A word counted from the end when negative, read where it is not negative. -/
def wrapped {s : Shape} (w z c : IVec s 32) : IVec s 32 := select (cmpi .slt w z) (addi w c) w

theorem wrapped_apply {s : Shape} (w z c : IVec s 32) (i : s.Idx) (n : ℕ) (h : w i = BitVec.ofNat 32 n) (hn : n < 2 ^ 31) (hz : z i = 0#32) :
    (wrapped w z c i).toInt = (n : Int) := by
  show (Scalar.select (IntOp.cmpi .slt (w i) (z i)) (IntOp.addi (w i) (c i)) (w i)).toInt = _
  rw [hz]
  exact wrap_word _ _ n h hn

/-! ## The scales -/

theorem divf_at {s : Shape} (x y : FVec Ideal s .f32) (i : s.Idx) : Host.divf x y i = Ideal.div (x i) (y i) := rfl

/-- A column of the sizes over 512. -/
def scaleOf (z : IVec ⟨2, ![4, 1]⟩ 32) : FVec Ideal Scale .f32 :=
  Host.divf (broadcastInDim Scale ![0] bcast_S4_S4x1x1_0 (sitofp .f32 (shapeCast S4 z shapeCasts_S4x1_S4)))
    (broadcastInDim Scale ![] bcast_S_S4x1x1 (constant S_ .f32 0x44000000#32))

theorem scaleOf_apply (z : IVec ⟨2, ![4, 1]⟩ 32) (a : Fin 4) : scaleOf z (ix3 a 0 0) = scl (z (ix2 a 0)) := by
  have e1 : broadcastInDim Scale ![0] bcast_S4_S4x1x1_0 (sitofp .f32 (shapeCast S4 z shapeCasts_S4x1_S4) : FVec Ideal S4 .f32) (ix3 a 0 0)
      = (((z (ix2 a 0)).toInt : ℝ) : EReal) := by
    refine (broadcastInDim_apply (s := ⟨1, ![4]⟩) _ _ _ (ix3 a 0 0) (ix1 a) (fun c => by fin_cases c <;> rfl)).trans ?_
    have e : shapeCast S4 z shapeCasts_S4x1_S4 (ix1 a) = z (ix2 a 0) := by
      refine shapeCast_apply (s := ⟨2, ![4, 1]⟩) (t := ⟨1, ![4]⟩) _ _ _ _ ?_
      rw [Shape.rowMajor_val_one, Shape.rowMajor_val_two]
      simp [ix1, ix2]
    show (((shapeCast S4 z shapeCasts_S4x1_S4 (ix1 a)).toInt : ℝ) : EReal) = _
    rw [e]
  have e2 : broadcastInDim Scale ![] bcast_S_S4x1x1 (constant S_ .f32 0x44000000#32 : FVec Ideal S_ .f32) (ix3 a 0 0) = ((512 : ℝ) : EReal) := ofBits_512
  unfold scaleOf
  rw [divf_at, e1, e2]
  unfold Ideal.div scl
  rw [if_neg (by exact_mod_cast (by norm_num : (512 : ℝ) ≠ 0))]
  congr 1
  rw [← EReal.coe_inv]
  norm_num

/-! ## The points in front -/

/-- The sorted cells as rows, the padding rows behind them. -/
def front (p : IVec (Deep 40) 32) (w e : FVec Ideal (Deep 40) .f32) (sx sy : FVec Ideal Scale .f32) : FVec Ideal Out .f32 :=
  pad Out ![0, 0, 0, 0] ![0, 0, 2, 0] ![0, 0, 0, 0]
    (concatenate (Rows 40 4) 3
      [⟨Rows 40 1, broadcastInDim (Rows 40 1) ![0, 1, 2] bcast_S4x16x40_S4x16x40x1_0_1_2 (mulf (mulf (sitofp .f32 (Host.remsi p (broadcastInDim (Deep 40) ![] bcast_S_S4x16x40 (constantI S_ 32 512#32)))) (broadcastInDim (Deep 40) ![0, 1, 2] bcast_S4x1x1_S4x16x40_0_1_2 sx)) w)⟩,
       ⟨Rows 40 1, broadcastInDim (Rows 40 1) ![0, 1, 2] bcast_S4x16x40_S4x16x40x1_0_1_2 (mulf (mulf (sitofp .f32 (Host.divsi p (broadcastInDim (Deep 40) ![] bcast_S_S4x16x40 (constantI S_ 32 512#32)))) (broadcastInDim (Deep 40) ![0, 1, 2] bcast_S4x1x1_S4x16x40_0_1_2 sy)) w)⟩,
       ⟨Rows 40 1, broadcastInDim (Rows 40 1) ![0, 1, 2] bcast_S4x16x40_S4x16x40x1_0_1_2 (mulf e w)⟩,
       ⟨Rows 40 1, broadcastInDim (Rows 40 1) ![0, 1, 2] bcast_S4x16x40_S4x16x40x1_0_1_2 w⟩]
      concatenates_S4x16x40x1_S4x16x40x1_S4x16x40x1_S4x16x40x1_S4x16x40x4_d3)
    (sitofp .f32 (constantI S_ 32 0#32)) pads_S4x16x40x4_S4x16x42x4_000_000_020_000 h_S_

theorem pad_in (x : FVec Ideal (Rows 40 4) .f32) (v : FVec Ideal S_ .f32) (h) (hu) (a : Fin 4) (b : Fin 16) (k : Fin 42) (ch : Fin 4) (hk : k.val < 40) :
    pad Out ![0, 0, 0, 0] ![0, 0, 2, 0] ![0, 0, 0, 0] x v h hu (ix4 a b k ch) = x (ix4 a b ⟨k.val, hk⟩ ch) :=
  pad_apply_of_inside (s := Rows 40 4) (t := Out) _ _ _ _ _ _ _ _ _ (fun c => by fin_cases c <;> simp [ix4])

theorem pad_out (x : FVec Ideal (Rows 40 4) .f32) (v : FVec Ideal S_ .f32) (h) (hu) (a : Fin 4) (b : Fin 16) (k : Fin 42) (ch : Fin 4) (hk : ¬ k.val < 40) :
    pad Out ![0, 0, 0, 0] ![0, 0, 2, 0] ![0, 0, 0, 0] x v h hu (ix4 a b k ch) = v (Shape.Idx.first hu) :=
  pad_apply_of_not_inside (s := Rows 40 4) (t := Out) _ _ _ _ _ _ _ _ 2 (fun h' => hk (by
    have := h'.2.2
    simpa [ix4] using this))

theorem mulf_at {s : Shape} (x y : FVec Ideal s .f32) (i : s.Idx) : mulf x y i = ((x i : EReal) * (y i : EReal) : EReal) := rfl

theorem rem_apply {n : ℕ} (p : IVec (Deep n) 32) (s : FVec Ideal Scale .f32) (h1) (h2) (a : Fin 4) (b : Fin 16) (k : Fin n) (N : ℕ) (hN : N < 262144)
    (hp : p (ix3 a b k) = BitVec.ofNat 32 N) :
    (mulf (sitofp .f32 (Host.remsi p (broadcastInDim (Deep n) ![] h1 (constantI S_ 32 512#32)))) (broadcastInDim (Deep n) ![0, 1, 2] h2 s) : FVec Ideal (Deep n) .f32) (ix3 a b k)
      = (ofN (N % 512) * (s (ix3 a 0 0) : EReal) : EReal) := by
  have e : Host.remsi p (broadcastInDim (Deep n) ![] h1 (constantI S_ 32 512#32)) (ix3 a b k) = BitVec.ofNat 32 (N % 512) := by
    show IntOp.remsi .host (p (ix3 a b k)) 512#32 = _
    rw [hp]
    exact remsi_word .host (by omega) (by decide) (by decide)
  rw [mulf_at, sitofp_at, e, spread_apply, sitofp_toNat _ (by simp only [BitVec.toNat_ofNat]; omega)]
  unfold ofN
  have : (BitVec.ofNat 32 (N % 512)).toNat = N % 512 := by simp only [BitVec.toNat_ofNat]; omega
  rw [this]

theorem quot_apply {n : ℕ} (p : IVec (Deep n) 32) (s : FVec Ideal Scale .f32) (h1) (h2) (a : Fin 4) (b : Fin 16) (k : Fin n) (N : ℕ) (hN : N < 262144)
    (hp : p (ix3 a b k) = BitVec.ofNat 32 N) :
    (mulf (sitofp .f32 (Host.divsi p (broadcastInDim (Deep n) ![] h1 (constantI S_ 32 512#32)))) (broadcastInDim (Deep n) ![0, 1, 2] h2 s) : FVec Ideal (Deep n) .f32) (ix3 a b k)
      = (ofN (N / 512) * (s (ix3 a 0 0) : EReal) : EReal) := by
  have e : Host.divsi p (broadcastInDim (Deep n) ![] h1 (constantI S_ 32 512#32)) (ix3 a b k) = BitVec.ofNat 32 (N / 512) := by
    show IntOp.divsi .host (p (ix3 a b k)) 512#32 = _
    rw [hp]
    exact divsi_word .host (by omega) (by decide) (by decide)
  rw [mulf_at, sitofp_at, e, spread_apply, sitofp_toNat _ (by simp only [BitVec.toNat_ofNat]; omega)]
  unfold ofN
  have : (BitVec.ofNat 32 (N / 512)).toNat = N / 512 := by simp only [BitVec.toNat_ofNat]; omega
  rw [this]

/-- A row of the front: a sorted cell's place, score and mark, each times the mark; zeros behind the fortieth. -/
theorem front_apply (p : IVec (Deep 40) 32) (w e : FVec Ideal (Deep 40) .f32) (sx sy : FVec Ideal Scale .f32) (a : Fin 4) (b : Fin 16) (k : Fin 42) (ch : Fin 4)
    (N : Fin 40 → ℕ) (hN : ∀ k, N k < 262144) (hp : ∀ k, p (ix3 a b k) = BitVec.ofNat 32 (N k)) :
    (front p w e sx sy (ix4 a b k ch) : EReal) = if h : k.val < 40 then
      (![ofN (N ⟨k.val, h⟩ % 512) * sx (ix3 a 0 0) * w (ix3 a b ⟨k.val, h⟩), ofN (N ⟨k.val, h⟩ / 512) * sy (ix3 a 0 0) * w (ix3 a b ⟨k.val, h⟩),
        e (ix3 a b ⟨k.val, h⟩) * w (ix3 a b ⟨k.val, h⟩), w (ix3 a b ⟨k.val, h⟩)] : Fin 4 → EReal) ch
      else 0 := by
  unfold front
  by_cases h : k.val < 40
  · rw [dif_pos h, pad_in _ _ _ _ a b k ch h, rows4_apply, mulf_at, mulf_at (s := Deep 40) _ w, mulf_at e w,
      rem_apply p sx _ _ a b ⟨k.val, h⟩ _ (hN _) (hp _), quot_apply p sy _ _ a b ⟨k.val, h⟩ _ (hN _) (hp _)]
  · rw [dif_neg h, pad_out _ _ _ _ a b k ch h]
    show (FloatOps.sitofp .f32 (0#32) : Ideal .f32) = (0 : EReal)
    rw [sitofp_toNat _ (by decide)]
    simp

/-! ## The background row -/

/-- The number of each map's image. -/
def images : IVec Scale 32 := broadcastInDim Scale ![0] bcast_S4_S4x1x1_0 (iotaInDim S4 32 0)
/-- The number of each map's prompt. -/
def prompts : IVec ⟨3, ![1, 16, 1]⟩ 32 := broadcastInDim S1x16x1 ![1] bcast_S16_S1x16x1_1 (iotaInDim S16 32 0)

theorem images_apply (a : Fin 4) : images (ix3 a 0 0) = BitVec.ofNat 32 a.val :=
  (broadcastInDim_apply (s := ⟨1, ![4]⟩) _ _ _ (ix3 a 0 0) (ix1 a) (fun c => by fin_cases c <;> rfl)).trans rfl
theorem prompts_apply (b : Fin 16) : prompts (ix3 0 b 0) = BitVec.ofNat 32 b.val :=
  (broadcastInDim_apply (s := ⟨1, ![16]⟩) _ _ _ (ix3 0 b 0) (ix1 b) (fun c => by fin_cases c <;> rfl)).trans rfl

theorem spread_prompts {α : Type} (x : (⟨3, ![1, 16, 1]⟩ : Shape).Idx → α) (h) (a : Fin 4) (b : Fin 16) :
    broadcastInDim (Deep 1) ![0, 1, 2] h x (ix3 a b 0) = x (ix3 0 b 0) :=
  broadcastInDim_apply (s := ⟨3, ![1, 16, 1]⟩) _ _ _ (ix3 a b 0) (ix3 0 b 0) (fun c => by fin_cases c <;> rfl)

/-- The words that name each map's background row. -/
def places (n : IVec (Deep 1) 32) : IVec Where 32 :=
  concatenate (Rows 1 3) 3
    [⟨Rows 1 1, broadcastInDim (Rows 1 1) ![0, 1, 2] bcast_S4x16x1_S4x16x1x1_0_1_2 (broadcastInDim (Deep 1) ![0, 1, 2] bcast_S4x1x1_S4x16x1_0_1_2
        (wrapped images (broadcastInDim Scale ![] bcast_S_S4x1x1 (constantI S_ 32 0#32)) (broadcastInDim Scale ![] bcast_S_S4x1x1 (constantI S_ 32 4#32))))⟩,
     ⟨Rows 1 1, broadcastInDim (Rows 1 1) ![0, 1, 2] bcast_S4x16x1_S4x16x1x1_0_1_2 (broadcastInDim (Deep 1) ![0, 1, 2] bcast_S1x16x1_S4x16x1_0_1_2
        (wrapped prompts (broadcastInDim S1x16x1 ![] bcast_S_S1x16x1 (constantI S_ 32 0#32)) (broadcastInDim S1x16x1 ![] bcast_S_S1x16x1 (constantI S_ 32 16#32))))⟩,
     ⟨Rows 1 1, broadcastInDim (Rows 1 1) ![0, 1, 2] bcast_S4x16x1_S4x16x1x1_0_1_2
        (wrapped n (broadcastInDim (Deep 1) ![] bcast_S_S4x16x1 (constantI S_ 32 0#32)) (broadcastInDim (Deep 1) ![] bcast_S_S4x16x1 (constantI S_ 32 42#32)))⟩]
    concatenates_S4x16x1x1_S4x16x1x1_S4x16x1x1_S4x16x1x3_d3

theorem places_apply (n : IVec (Deep 1) 32) (a : Fin 4) (b : Fin 16) (N : ℕ) (hN : N < 2 ^ 31) (h : n (ix3 a b 0) = BitVec.ofNat 32 N) (ch : Fin 3) :
    (places n (ix4 a b 0 ch)).toInt = ((![a.val, b.val, N] : Fin 3 → ℕ) ch : Int) := by
  unfold places
  rw [rows3_apply, spread_apply, spread_prompts]
  match ch with
  | 0 => exact wrapped_apply _ _ _ _ a.val (images_apply a) (by omega) rfl
  | 1 => exact wrapped_apply _ _ _ _ b.val (prompts_apply b) (by omega) rfl
  | 2 => exact wrapped_apply _ _ _ _ N h hN rfl

/-- The background rows. -/
def behind (p : IVec (Deep 1) 32) (e : FVec Ideal (Deep 1) .f32) (sx sy : FVec Ideal Scale .f32) : FVec Ideal Row .f32 :=
  concatenate (Rows 1 4) 3
    [⟨Rows 1 1, broadcastInDim (Rows 1 1) ![0, 1, 2] bcast_S4x16x1_S4x16x1x1_0_1_2 (mulf (sitofp .f32 (Host.remsi p (broadcastInDim (Deep 1) ![] bcast_S_S4x16x1 (constantI S_ 32 512#32)))) (broadcastInDim (Deep 1) ![0, 1, 2] bcast_S4x1x1_S4x16x1_0_1_2 sx))⟩,
     ⟨Rows 1 1, broadcastInDim (Rows 1 1) ![0, 1, 2] bcast_S4x16x1_S4x16x1x1_0_1_2 (mulf (sitofp .f32 (Host.divsi p (broadcastInDim (Deep 1) ![] bcast_S_S4x16x1 (constantI S_ 32 512#32)))) (broadcastInDim (Deep 1) ![0, 1, 2] bcast_S4x1x1_S4x16x1_0_1_2 sy))⟩,
     ⟨Rows 1 1, broadcastInDim (Rows 1 1) ![0, 1, 2] bcast_S4x16x1_S4x16x1x1_0_1_2 (Host.negf e)⟩,
     ⟨Rows 1 1, broadcastInDim (Rows 1 1) ![0, 1, 2] bcast_S4x16x1_S4x16x1x1_0_1_2 (broadcastInDim (Deep 1) ![] bcast_S_S4x16x1 (constant S_ .f32 0x00000000#32))⟩]
    concatenates_S4x16x1x1_S4x16x1x1_S4x16x1x1_S4x16x1x1_S4x16x1x4_d3

theorem behind_apply (p : IVec (Deep 1) 32) (e : FVec Ideal (Deep 1) .f32) (sx sy : FVec Ideal Scale .f32) (a : Fin 4) (b : Fin 16) (ch : Fin 4)
    (N : ℕ) (hN : N < 262144) (hp : p (ix3 a b 0) = BitVec.ofNat 32 N) :
    (behind p e sx sy (ix4 a b 0 ch) : EReal)
      = (![ofN (N % 512) * sx (ix3 a 0 0), ofN (N / 512) * sy (ix3 a 0 0), -(e (ix3 a b 0)), 0] : Fin 4 → EReal) ch := by
  have e0 : broadcastInDim (Deep 1) ![] bcast_S_S4x16x1 (constant S_ .f32 0x00000000#32 : FVec Ideal S_ .f32) (ix3 a b 0) = (0 : EReal) := by
    show Ideal.ofBits .f32 0x00000000#32 = 0
    simp [Ideal.ofBits, Ideal.ieee]
  have e1 : Host.negf e (ix3 a b 0) = (-(e (ix3 a b 0) : EReal) : EReal) := rfl
  unfold behind
  rw [rows4_apply, rem_apply p sx _ _ a b 0 _ hN hp, quot_apply p sy _ _ a b 0 _ hN hp, e0, e1]

end Cert.Value

end
-- ==== Proof.Value.RefOut.lean ====
/- The reference's two results: the points of each map and one more than the number of its foreground points. -/
module

public import proofs.«01_k».proof.Proof.Value.RefRows

@[expose] public section

set_option maxRecDepth 16384

noncomputable section

namespace Cert.Value

open Idealize.ShloMosaic Idealize.ShloMosaic.StableHlo Idealize.ShloMosaic.TcCoe Cert.Model Cert.ReferenceIdeal Cert.ReferenceIdeal.Value Cert.ReferenceIdeal.Gen
open Idealize.ShloMosaic.Routing

variable (V : Valuation τ sig (Elt Ideal))

/-! ## The first forty sorted cells -/

theorem slice40 {α : Type} (y : Three.Idx → α) (h) (a : Fin 4) (b : Fin 16) (k : Fin 40) :
    extractStridedSlice (Deep 40) ![0, 0, 0] y h (ix3 a b k) = y (ix3 a b ⟨k.val, by omega⟩) :=
  extractStridedSlice_apply (s := Three) (t := Deep 40) _ _ _ _ _ (fun c => by fin_cases c <;> simp [ix3])

/-- The first forty of the sorted cells' scores. -/
def headScores (x y : FVec Ideal Three .f32) (z : IVec Three 32) (w : FVec Ideal Three .f32) (h : Three.Slices ![0, 0, 0] (Deep 40)) : FVec Ideal (Deep 40) .f32 :=
  extractStridedSlice (Deep 40) ![0, 0, 0] (Host.sort4 Three 2 comparator_f32_f32_i32_f32_d2 x y z w).2.1 h

/-- The first forty of the sorted cells' positions. -/
def headSpots (x y : FVec Ideal Three .f32) (z : IVec Three 32) (w : FVec Ideal Three .f32) (h : Three.Slices ![0, 0, 0] (Deep 40)) : IVec (Deep 40) 32 :=
  extractStridedSlice (Deep 40) ![0, 0, 0] (Host.sort4 Three 2 comparator_f32_f32_i32_f32_d2 x y z w).2.2.1 h

/-- The first forty of the sorted cells' marks. -/
def headMarks (x y : FVec Ideal Three .f32) (z : IVec Three 32) (w : FVec Ideal Three .f32) (h : Three.Slices ![0, 0, 0] (Deep 40)) : FVec Ideal (Deep 40) .f32 :=
  extractStridedSlice (Deep 40) ![0, 0, 0] (Host.sort4 Three 2 comparator_f32_f32_i32_f32_d2 x y z w).2.2.2 h

theorem heads_apply (x y : FVec Ideal Three .f32) (z : IVec Three 32) (w : FVec Ideal Three .f32) (h' : Three.Slices ![0, 0, 0] (Deep 40)) (key : Fin 256 → EReal)
    (a : Fin 4) (b : Fin 16) (h : ∀ q, x (ix3 a b q) = key q) (k : Fin 40) :
    headScores x y z w h' (ix3 a b k) = y (ix3 a b (sortedFrom (byKey key) ⟨k.val, by omega⟩))
    ∧ headSpots x y z w h' (ix3 a b k) = z (ix3 a b (sortedFrom (byKey key) ⟨k.val, by omega⟩))
    ∧ headMarks x y z w h' (ix3 a b k) = w (ix3 a b (sortedFrom (byKey key) ⟨k.val, by omega⟩)) := by
  obtain ⟨h1, h2, h3⟩ := sort_apply x y z w key a b h ⟨k.val, by omega⟩
  exact ⟨(slice40 _ h' a b k).trans h1, (slice40 _ h' a b k).trans h2, (slice40 _ h' a b k).trans h3⟩

/-- The reference's sorted scores. -/
def topScores : FVec Ideal (Deep 40) .f32 :=
  headScores (res_main_v22 V) (res_main_v20 V) (res_main_v19 V) (res_main_v23 V) slices_S4x16x256_S4x16x40_0_0_0

theorem v26_eq : (res_main_v26 V : (Deep 40).Idx → BitVec 32)
    = headSpots (res_main_v22 V) (res_main_v20 V) (res_main_v19 V) (res_main_v23 V) slices_S4x16x256_S4x16x40_0_0_0 := by
  unfold res_main_v26 headSpots
  rfl

theorem v27_eq : (res_main_v27 V : (Deep 40).Idx → EReal)
    = headMarks (res_main_v22 V) (res_main_v20 V) (res_main_v19 V) (res_main_v23 V) slices_S4x16x256_S4x16x40_0_0_0 := by
  unfold res_main_v27 headMarks
  rfl

theorem heads (hV : ∀ i, scoresOf V i < ⊤) (a : Fin 4) (b : Fin 16) (k : Fin 40) :
    topScores V (ix3 a b k) = (res_main_v20 V : Three.Idx → EReal) (ix3 a b (rankOf (refMap V a b) ⟨k.val, by omega⟩))
    ∧ (res_main_v26 V : (Deep 40).Idx → BitVec 32) (ix3 a b k) = (res_main_v19 V : Three.Idx → BitVec 32) (ix3 a b (rankOf (refMap V a b) ⟨k.val, by omega⟩))
    ∧ (res_main_v27 V : (Deep 40).Idx → EReal) (ix3 a b k) = (res_main_v23 V : Three.Idx → EReal) (ix3 a b (rankOf (refMap V a b) ⟨k.val, by omega⟩)) := by
  rw [v26_eq, v27_eq]
  exact heads_apply _ _ _ _ _ (fun q => -keyOf (cellV (refMap V a b)) q) a b (v22_apply V hV a b) k

/-! ## The least element -/

/-- The search for the least element. -/
def leastOf : FVec Ideal Single .f32 × IVec Single 32 :=
  Host.topK Single 2 (FloatOps.cmpfTotal (F := Ideal) (φ := .f32) .gt) (res_main_v38 V) sliceFits_S4x16x262144_S4x16x1

theorem indices_eq : (res_main_indices V : Single.Idx → BitVec 32) = (leastOf V).2 := by
  unfold res_main_indices leastOf
  rfl

theorem v38_apply (a : Fin 4) (b : Fin 16) (n : Fin 262144) :
    (res_main_v38 V : Pixels.Idx → EReal) (ix3 a b n) = (-(refMap V a b ⟨n.val / 512, by omega⟩ ⟨n.val % 512, by omega⟩) : EReal) := by
  rw [← pixels_apply]
  unfold res_main_v38
  rfl

/-- What stands first in a sort of a map's elements is its least value, at its lowest position. -/
theorem first_least (m : Fin 512 → Fin 512 → EReal) (n : Fin 262144)
    (hn : n = sortedFrom (byKey fun n : Fin 262144 => m ⟨n.val / 512, by omega⟩ ⟨n.val % 512, by omega⟩) ⟨0, by omega⟩) :
    LeastSpec m (m ⟨n.val / 512, by omega⟩ ⟨n.val % 512, by omega⟩) n.val := by
  have hb : ∀ n' : Fin 262144, n' = n ∨ Before (fun n : Fin 262144 => m ⟨n.val / 512, by omega⟩ ⟨n.val % 512, by omega⟩) n n' := by
    intro n'
    obtain ⟨i, hi⟩ := sortedFrom_surjective (byKey fun n : Fin 262144 => m ⟨n.val / 512, by omega⟩ ⟨n.val % 512, by omega⟩) n'
    by_cases h0 : i = ⟨0, by omega⟩
    · left; rw [hn, ← hi, h0]
    · right
      rw [hn, ← hi]
      exact sorted_before _ _ _ (Fin.lt_def.2 (Nat.pos_of_ne_zero fun h => h0 (Fin.ext h)))
  have hm : ∀ r l : Fin 512, ∃ n' : Fin 262144, n'.val = r.val * 512 + l.val ∧ m ⟨n'.val / 512, by omega⟩ ⟨n'.val % 512, by omega⟩ = m r l := by
    intro r l
    refine ⟨⟨r.val * 512 + l.val, by omega⟩, rfl, ?_⟩
    have e1 : (⟨(r.val * 512 + l.val) / 512, by omega⟩ : Fin 512) = r := Fin.ext (by show (r.val * 512 + l.val) / 512 = r.val; omega)
    have e2 : (⟨(r.val * 512 + l.val) % 512, by omega⟩ : Fin 512) = l := Fin.ext (by show (r.val * 512 + l.val) % 512 = l.val; omega)
    show m ⟨(r.val * 512 + l.val) / 512, _⟩ ⟨(r.val * 512 + l.val) % 512, _⟩ = m r l
    rw [e1, e2]
  refine ⟨fun r l => ?_, ⟨_, _, rfl, ?_⟩, fun r l h => ?_⟩
  · obtain ⟨n', -, e⟩ := hm r l
    rw [← e]
    rcases hb n' with rfl | h | ⟨h, -⟩
    · exact le_rfl
    · exact le_of_lt h
    · exact le_of_eq h
  · show n.val = n.val / 512 * 512 + n.val % 512
    omega
  · obtain ⟨n', e', e⟩ := hm r l
    rw [← e']
    rcases hb n' with rfl | h' | ⟨-, h'⟩
    · exact le_rfl
    · exact absurd (e.trans h) (ne_of_gt h')
    · exact le_of_lt (Fin.lt_def.1 h')

theorem leastOf_apply (a : Fin 4) (b : Fin 16) :
    (leastOf V).1 (ix3 a b 0) = (-(mapV (refMap V a b)) : EReal) ∧ (leastOf V).2 (ix3 a b 0) = BitVec.ofNat 32 (mapN (refMap V a b)) := by
  obtain ⟨h1, h2⟩ := top_apply (res_main_v38 V) sliceFits_S4x16x262144_S4x16x1
    (fun n : Fin 262144 => refMap V a b ⟨n.val / 512, by omega⟩ ⟨n.val % 512, by omega⟩) a b (v38_apply V a b)
  obtain ⟨e1, e2⟩ := (first_least (refMap V a b) _ rfl).unique (mapS (refMap V a b))
  exact ⟨h1.trans (congrArg (fun t : EReal => -t) e1), h2.trans (congrArg (BitVec.ofNat 32) e2)⟩

/-! ## The scales and the row behind -/

/-- The reference's sizes. -/
abbrev sizesOf : Fin 4 → Fin 2 → BitVec 32 := fun t d => (V (Proc.devRef .tc main_arg2) : S4x2.Idx → BitVec 32) (ix2 t d)

theorem column_apply {α : Type} (z : (⟨2, ![4, 2]⟩ : Shape).Idx → α) (d : Fin 2) (h) (a : Fin 4) :
    extractStridedSlice ⟨2, ![4, 1]⟩ ![0, d.val] z h (ix2 a 0) = z (ix2 a d) :=
  extractStridedSlice_apply (s := ⟨2, ![4, 2]⟩) (t := ⟨2, ![4, 1]⟩) _ _ _ _ _ (fun c => by fin_cases c <;> simp [ix2])

theorem v51_apply (a : Fin 4) : (res_main_v51 V : Scale.Idx → EReal) (ix3 a 0 0) = scl (sizesOf V a 0) := by
  have e : (res_main_v51 V : Scale.Idx → EReal) = scaleOf (extractStridedSlice ⟨2, ![4, 1]⟩ ![0, 0] (V (Proc.devRef .tc main_arg2)) slices_S4x2_S4x1_0_0) := by
    unfold res_main_v51 scaleOf
    rfl
  rw [e, scaleOf_apply]
  exact congrArg scl (column_apply _ 0 _ a)

theorem v57_apply (a : Fin 4) : (res_main_v57 V : Scale.Idx → EReal) (ix3 a 0 0) = scl (sizesOf V a 1) := by
  have e : (res_main_v57 V : Scale.Idx → EReal) = scaleOf (extractStridedSlice ⟨2, ![4, 1]⟩ ![0, 1] (V (Proc.devRef .tc main_arg2)) slices_S4x2_S4x1_0_1) := by
    unfold res_main_v57 scaleOf
    rfl
  rw [e, scaleOf_apply]
  exact congrArg scl (column_apply _ 1 _ a)

theorem pairs_apply {α : Type} (x : Pairs.Idx → α) (h) (a : Fin 4) (b : Fin 16) : broadcastInDim (Deep 1) ![0, 1] h x (ix3 a b 0) = x (ix2 a b) :=
  broadcastInDim_apply (s := Pairs) _ _ _ _ _ (fun c => by fin_cases c <;> rfl)

theorem v85_apply (hV : ∀ i, scoresOf V i < ⊤) (a : Fin 4) (b : Fin 16) :
    (res_main_v85 V : (Deep 1).Idx → BitVec 32) (ix3 a b 0) = cnt (cellV (refMap V a b)) := by
  rw [← v37_apply V hV]
  unfold res_main_v85
  exact pairs_apply _ _ a b

/-! ## The results -/

/-- The rows of a map's points, read from the parts they are put together from. -/
theorem rows_apply (p : IVec (Deep 40) 32) (w e : FVec Ideal (Deep 40) .f32) (sx sy : FVec Ideal Scale .f32) (n q : IVec (Deep 1) 32) (f : FVec Ideal (Deep 1) .f32)
    (S : Fin 4 → Fin 16 → Fin 256 → EReal) (N : Fin 4 → Fin 16 → Fin 256 → ℕ) (mv : Fin 4 → Fin 16 → EReal) (mn C : Fin 4 → Fin 16 → ℕ) (X Y : Fin 4 → EReal)
    (π : Fin 4 → Fin 16 → Fin 256 → Fin 256) (hN : ∀ a b q, N a b q < 262144) (hmn : ∀ a b, mn a b < 262144) (hC : ∀ a b, C a b < 42)
    (hp : ∀ a b (k : Fin 40), p (ix3 a b k) = BitVec.ofNat 32 (if θ < S a b (π a b ⟨k.val, by omega⟩) then N a b (π a b ⟨k.val, by omega⟩) else 0))
    (hw : ∀ a b (k : Fin 40), w (ix3 a b k) = if θ < S a b (π a b ⟨k.val, by omega⟩) then (1 : EReal) else 0)
    (he : ∀ a b (k : Fin 40), θ < S a b (π a b ⟨k.val, by omega⟩) → e (ix3 a b k) = S a b (π a b ⟨k.val, by omega⟩))
    (hsx : ∀ a, sx (ix3 a 0 0) = X a) (hsy : ∀ a, sy (ix3 a 0 0) = Y a) (hn : ∀ a b, n (ix3 a b 0) = BitVec.ofNat 32 (C a b))
    (hq : ∀ a b, q (ix3 a b 0) = BitVec.ofNat 32 (mn a b)) (hf : ∀ a b, f (ix3 a b 0) = (-(mv a b) : EReal))
    (a : Fin 4) (b : Fin 16) (k : Fin 42) (ch : Fin 4) :
    Host.scatter scatter_S4x16x42x4_S4x16x1x3_S4x16x1x4_3_012_012_3 (fun _ w => w) (front p w e sx sy) (places n) (behind q f sx sy) (ix4 a b k ch)
      = point (S a b) (N a b) (mv a b) (mn a b) (X a) (Y a) (π a b) (C a b) k.val ch := by
  have hpl := fun a b => places_apply n a b (C a b) (by have := hC a b; omega) (hn a b)
  rw [scatter_apply _ _ _ (fun a b => ⟨C a b, hC a b⟩) (fun a b => hpl a b 0) (fun a b => hpl a b 1) (fun a b => hpl a b 2)]
  unfold point
  by_cases hk : k.val = C a b
  · rw [if_pos (Fin.ext hk.symm), if_pos hk, behind_apply _ _ _ _ a b ch (mn a b) (hmn a b) (hq a b), hsx, hsy, hf, neg_neg]
  · rw [if_neg (fun h => hk (congrArg Fin.val h).symm), if_neg hk, front_apply _ _ _ _ _ a b k ch _
      (fun k => by split; exacts [hN a b _, by decide]) (hp a b)]
    by_cases h : k.val < 40
    · rw [dif_pos h, dif_pos h, hw, hsx, hsy]
      by_cases hθ : θ < S a b (π a b ⟨k.val, by omega⟩)
      · simp only [if_pos hθ, he a b ⟨k.val, h⟩ hθ, mul_one]
      · simp only [if_neg hθ, mul_zero]
        match ch with
        | 0 => rfl
        | 1 => rfl
        | 2 => rfl
        | 3 => rfl
    · rw [dif_neg h, dif_neg h]

theorem v107_eq : (res_main_v107 V : Out.Idx → EReal)
    = Host.scatter scatter_S4x16x42x4_S4x16x1x3_S4x16x1x4_3_012_012_3 (fun _ w => w)
        (front (res_main_v26 V) (res_main_v27 V) (topScores V) (res_main_v57 V) (res_main_v51 V)) (places (res_main_v85 V))
        (behind (res_main_indices V) (leastOf V).1 (res_main_v57 V) (res_main_v51 V)) := by
  unfold res_main_v107 front places behind wrapped images prompts topScores headScores leastOf
  rfl

/-- **The reference's first result**: the points, the cells of each map ranked by the reference's sort. -/
theorem reference_points (hV : ∀ i, scoresOf V i < ⊤) (a : Fin 4) (b : Fin 16) (k : Fin 42) (ch : Fin 4) :
    (res_main_v107 V : Out.Idx → EReal) (ix4 a b k ch) = pointAt (scoresOf V) (sizesOf V) (fun t => rankOf (fn (mapAt (scoresOf V) t))) a b k ch := by
  rw [v107_eq]
  exact rows_apply _ _ _ _ _ _ _ _ (fun a b => cellV (refMap V a b)) (fun a b => cellN (refMap V a b)) (fun a b => mapV (refMap V a b))
    (fun a b => mapN (refMap V a b)) (fun a b => (cnt (cellV (refMap V a b))).toNat) (fun a => scl (sizesOf V a 1)) (fun a => scl (sizesOf V a 0))
    (fun a b => rankOf (refMap V a b)) (fun a b q => cellN_lt _ q) (fun a b => mapN_lt _) (fun a b => by have := cnt_le (cellV (refMap V a b)); omega)
    (fun a b k => (heads V hV a b k).2.1.trans (v19_apply V hV a b _)) (fun a b k => (heads V hV a b k).2.2.trans (v23_apply V hV a b _))
    (fun a b k hθ => (heads V hV a b k).1.trans (v20_apply V hV a b _ hθ)) (v57_apply V) (v51_apply V)
    (fun a b => (v85_apply V hV a b).trans (by simp)) (fun a b => (congrFun (indices_eq V) _).trans (leastOf_apply V a b).2) (fun a b => (leastOf_apply V a b).1) a b k ch

/-- **The reference's second result**: one more than the number of foreground points. -/
theorem reference_counts (hV : ∀ i, scoresOf V i < ⊤) (h) (a : Fin 4) (b : Fin 16) :
    (addi (res_main_v37 V) (broadcastInDim S4x16 ![] h (constantI S_ 32 1#32)) : S4x16.Idx → BitVec 32) (ix2 a b)
      = cnt (cellV (refMap V a b)) + 1#32 := by
  rw [← v37_apply V hV]
  rfl

end Cert.Value

end
-- ==== Proof.Value.Equal.lean ====
/- The kernel's results and the reference's are equal, from equal arguments whose scores are below infinity. -/
module

public import proofs.«01_k».proof.Defs
public import proofs.«01_k».proof.Proof.Value.KernelValue
public import proofs.«01_k».proof.Proof.Value.RefOut

@[expose] public section

noncomputable section

namespace Cert.Value

open Idealize.ShloMosaic Idealize.ShloMosaic.StableHlo Idealize.ShloMosaic.TcCoe Cert.Model

/-- The predicate's only side condition: a scalar broadcasts to the scores' shape. -/
theorem predicate_facts : Cert.Pre_below_infinity.Facts := ⟨by decide⟩

/-- Where the precondition holds, every score is below infinity. -/
theorem below [Cert.Pre_below_infinity.Facts] (A : FVec Ideal Scores4 .f32) (y z) (h : Cert.Pre_below_infinity.fn (F := Ideal) A y z = fun _ => 1#1) (i : Scores4.Idx) :
    (A i : EReal) < ⊤ := by
  have hi : BitVec.ofBool (decide ((A i : EReal) < Ideal.ofBits .f32 0x7F800000#32)) = 1#1 := congrFun h i
  rw [ofBits_top] at hi
  by_contra hn
  rw [decide_eq_false hn] at hi
  exact absurd hi (by decide)

variable (m : (ℓ : Loc Cert.KernelIdeal.nD Cert.KernelIdeal.τ Cert.KernelIdeal.sig) → Buf (Elt Ideal) ℓ)
  (c : Dev Cert.KernelIdeal.nD) (V : Valuation Cert.ReferenceIdeal.τ Cert.ReferenceIdeal.sig (Elt Ideal))

/-- The points are equal. -/
theorem points_equal (hA : scoresOf V = argA m c) (hZ : sizesOf V = argZ m c) (hlt : ∀ i, (argA m c i : EReal) < ⊤) :
    (Cert.ReferenceIdeal.Value.res_main_v107 V : Out.Idx → EReal) = (Cert.KernelIdeal.Body.W4 m c (Proc.devRef .tc Cert.KernelIdeal.main_v6) : Out.Idx → EReal) := by
  funext i
  rw [eq_ix4 i]
  have hr := reference_points V (fun i => by rw [hA]; exact hlt i) (i 0) (i 1) (i 2) (i 3)
  have hk := kernel_points m c (fun t => rankOf (fn (mapAt (argA m c) t))) (fun t => ranked _) (i 0) (i 1) (i 2) (i 3)
  rw [hA, hZ] at hr
  exact hr.trans hk.symm

/-- The counts are equal. -/
theorem counts_equal (hA : scoresOf V = argA m c) (hlt : ∀ i, (argA m c i : EReal) < ⊤) (h) :
    (addi (Cert.ReferenceIdeal.Value.res_main_v37 V) (broadcastInDim Cert.ReferenceIdeal.S4x16 ![] h (constantI Cert.ReferenceIdeal.S_ 32 1#32)) : Pairs.Idx → BitVec 32)
      = (Cert.KernelIdeal.Body.W4 m c (Proc.devRef .tc Cert.KernelIdeal.main_v10) : Pairs.Idx → BitVec 32) := by
  funext i
  rw [eq_ix2 i]
  have hr := reference_counts V (fun i => by rw [hA]; exact hlt i) h (i 0) (i 1)
  have hk := kernel_counts m c (i 0) (i 1)
  unfold refMap at hr
  rw [hA] at hr
  exact hr.trans hk.symm

end Cert.Value

end
-- ==== Proof.lean ====
/- The proof of the certificate's claim: what is claimed is stated in the generated Defs module, and proved here from the modules under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Equal
public import Idealize.ShloMosaic.Adequacy
public import Idealize.ShloMosaic.Init

@[expose] public section

noncomputable section

namespace Cert.Proof

open Idealize.ShloMosaic Idealize.SL.Sem Cert.Value

/-- The kernel's program runs to the end with its arguments unchanged and its counters at zero. -/
theorem frame_kernel : Cert.quiescent_Kernel (hKernel := Cert.Kernel.Gen.facts) :=
  fun m ρ _ => Cert.Kernel.Body.frame m ρ

/-- So does its idealization. -/
theorem frame_ideal : Cert.quiescent_KernelIdeal (hKernelIdeal := Cert.KernelIdeal.Gen.facts) :=
  fun m ρ _ => Cert.KernelIdeal.Body.frame m ρ

/-- So does the reference's: its run gives the arguments, and it has no semaphore. -/
theorem frame_reference : Cert.quiescent_ReferenceIdeal (hReferenceIdeal := Cert.ReferenceIdeal.Gen.facts) := by
  intro m ρ _
  exact (θ_run Cert.ReferenceIdeal.defs _ _).mono (fun r h => ⟨fun c => (h c).2.2, sem_eq_zero_of_no_sems (by decide) r.2⟩)
    (Cert.ReferenceIdeal.Value.run (F := Ideal) m ρ)

/-- From equal arguments with scores below infinity the idealized kernel and the idealized reference end with equal results. -/
theorem equal_results : Cert.algebraic_KernelIdeal_ReferenceIdeal_pre_below_infinity (hKernelIdeal := Cert.KernelIdeal.Gen.facts)
    (hReferenceIdeal := Cert.ReferenceIdeal.Gen.facts) (hPre_below_infinity := predicate_facts) := by
  intro m ρ m' ρ' hpre hargs
  refine ⟨fun c => Cert.KernelIdeal.Body.W4 m c (Proc.devRef .tc Cert.KernelIdeal.main_v6), fun c => Cert.KernelIdeal.Body.W4 m c (Proc.devRef .tc Cert.KernelIdeal.main_v10), ?_, ?_⟩
  · exact (θ_run Cert.KernelIdeal.defs _ _).mono (fun r h c =>
      ⟨h.1 c _ (Cert.KernelIdeal.Body.mem_uc Cert.KernelIdeal.main_v6 (by decide)), h.1 c _ (Cert.KernelIdeal.Body.mem_uc Cert.KernelIdeal.main_v10 (by decide)),
        (h.1 c _ (Cert.KernelIdeal.Body.mem_uc Cert.KernelIdeal.main_arg0 (by decide))).trans (Cert.KernelIdeal.Body.W4_arg0 m c),
        (h.1 c _ (Cert.KernelIdeal.Body.mem_uc Cert.KernelIdeal.main_arg1 (by decide))).trans (Cert.KernelIdeal.Body.W4_arg1 m c),
        (h.1 c _ (Cert.KernelIdeal.Body.mem_uc Cert.KernelIdeal.main_arg2 (by decide))).trans (Cert.KernelIdeal.Body.W4_arg2 m c)⟩)
      (Cert.KernelIdeal.Body.run m ρ)
  · refine (θ_run Cert.ReferenceIdeal.defs _ _).mono (fun r h c => ?_) (Cert.ReferenceIdeal.Value.run (F := Ideal) m' ρ')
    obtain ⟨h0, h1, hrest⟩ := h c
    have hA : scoresOf (StableHlo.launchContents m' c) = argA m c := (hargs c).1
    have hZ : sizesOf (StableHlo.launchContents m' c) = argZ m c := by
      funext t d
      exact congrFun (hargs c).2.2 _
    have := predicate_facts
    have hlt := below (argA m c) _ _ (hpre c)
    exact ⟨h0.trans (points_equal m c _ hA hZ hlt), h1.trans (counts_equal m c _ hA hlt _), hrest⟩

theorem claim : Cert.Claim :=
  ⟨Cert.Kernel.Gen.facts, Cert.KernelIdeal.Gen.facts, Cert.ReferenceIdeal.Gen.facts, predicate_facts, frame_kernel, frame_ideal,
    fun m ρ _ => frame_ideal m ρ trivial, frame_reference, fun m ρ _ => frame_reference m ρ trivial, trivial, equal_results⟩

end Cert.Proof

end
